-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "q_scale" .f32 0x3E38AA3B#32 (((1 / 8) * (Real.log 2)⁻¹ : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_scores_finite.lean ====
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S8 : Shape := ⟨1, ![8]⟩
abbrev S_ : Shape := ⟨0, ![]⟩

class Facts : Prop where
  bcast_S_S4x4096x8x64 : S_.BroadcastsInDim S4x4096x8x64 (![] : Fin 0 → Fin S4x4096x8x64.rank)
  bcast_S_S4x4096x2x64 : S_.BroadcastsInDim S4x4096x2x64 (![] : Fin 0 → Fin S4x4096x2x64.rank)
  bcast_S_S4x256x2x64 : S_.BroadcastsInDim S4x256x2x64 (![] : Fin 0 → Fin S4x256x2x64.rank)
  bcast_S_S8 : S_.BroadcastsInDim S8 (![] : Fin 0 → Fin S8.rank)

variable [Facts]

def fn {F : FTy → Type} [FloatOps F] (main_arg0 : FVec F S4x4096x8x64 .f32) (main_arg1 : FVec F S4x4096x2x64 .f32) (main_arg2 : FVec F S4x4096x2x64 .f32) (main_arg3 : FVec F S4x256x2x64 .f32) (main_arg4 : FVec F S4x256x2x64 .f32) (main_arg5 : FVec F S8 .f32) : IVec S4x4096x8x64 1 × IVec S4x4096x2x64 1 × IVec S4x256x2x64 1 × IVec S8 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_v3 : FVec F S4x4096x2x64 .f32 := Host.absf main_arg1
  let main_cst_0 : FVec F S_ .f32 := constant S_ .f32 0x7F800000#32
  let main_v4 : FVec F S4x4096x2x64 .f32 := broadcastInDim S4x4096x2x64 ![] bcast_S_S4x4096x2x64 main_cst_0
  let main_v5 : IVec S4x4096x2x64 1 := cmpf .olt main_v3 main_v4
  let main_v6 : FVec F S4x256x2x64 .f32 := Host.absf main_arg3
  let main_cst_1 : FVec F S_ .f32 := constant S_ .f32 0x7F800000#32
  let main_v7 : FVec F S4x256x2x64 .f32 := broadcastInDim S4x256x2x64 ![] bcast_S_S4x256x2x64 main_cst_1
  let main_v8 : IVec S4x256x2x64 1 := cmpf .olt main_v6 main_v7
  let main_v9 : FVec F S8 .f32 := Host.absf main_arg5
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Kernel.lean ====
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S8 : Shape := ⟨1, ![8]⟩
abbrev S4x4096x2x4x64 : Shape := ⟨5, ![4, 4096, 2, 4, 64]⟩
abbrev S4x4096x4x2x64 : Shape := ⟨5, ![4, 4096, 4, 2, 64]⟩
abbrev S4x4096x512 : Shape := ⟨3, ![4, 4096, 512]⟩
abbrev S4x4096x128 : Shape := ⟨3, ![4, 4096, 128]⟩
abbrev S4x256x128 : Shape := ⟨3, ![4, 256, 128]⟩
abbrev S1x1024x512 : Shape := ⟨3, ![1, 1024, 512]⟩
abbrev S1x128x128 : Shape := ⟨3, ![1, 128, 128]⟩
abbrev S1x1024x128 : Shape := ⟨3, ![1, 1024, 128]⟩
abbrev S1x256x128 : Shape := ⟨3, ![1, 256, 128]⟩
abbrev S1 : Shape := ⟨1, ![1]⟩
abbrev S128x128 : Shape := ⟨2, ![128, 128]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩
abbrev S128x512 : Shape := ⟨2, ![128, 512]⟩
abbrev S1x128x512 : Shape := ⟨3, ![1, 128, 512]⟩

abbrev nBuf : Space → Nat
  | .hbm => 18
  | .vmem => 20
  | .smem => 1
  | _ => 0

abbrev bufTy : (tb : Table) → Fin (tcTables nBuf tb) → BufTy
  | .hbm, ⟨0, _⟩ => ⟨S4x4096x8x64, .f32⟩
  | .hbm, ⟨1, _⟩ => ⟨S4x4096x2x64, .f32⟩
  | .hbm, ⟨2, _⟩ => ⟨S4x4096x2x64, .f32⟩
  | .hbm, ⟨3, _⟩ => ⟨S4x256x2x64, .f32⟩
  | .hbm, ⟨4, _⟩ => ⟨S4x256x2x64, .f32⟩
  | .hbm, ⟨5, _⟩ => ⟨S8, .f32⟩
  | .hbm, ⟨6, _⟩ => ⟨S4x4096x2x4x64, .f32⟩
  | .hbm, ⟨7, _⟩ => ⟨S4x4096x4x2x64, .f32⟩
  | .hbm, ⟨8, _⟩ => ⟨S4x4096x512, .f32⟩
  | .hbm, ⟨9, _⟩ => ⟨S4x4096x128, .f32⟩
  | .hbm, ⟨10, _⟩ => ⟨S4x4096x128, .bf16⟩
  | .hbm, ⟨11, _⟩ => ⟨S4x4096x128, .f32⟩
  | .hbm, ⟨12, _⟩ => ⟨S4x4096x128, .bf16⟩
  | .hbm, ⟨13, _⟩ => ⟨S4x256x128, .f32⟩
  | .hbm, ⟨14, _⟩ => ⟨S4x256x128, .bf16⟩
  | .hbm, ⟨15, _⟩ => ⟨S4x256x128, .f32⟩
  | .hbm, ⟨16, _⟩ => ⟨S4x256x128, .bf16⟩
  | .hbm, ⟨17, _⟩ => ⟨S4x4096x512, .bf16⟩
  | .local _ .vmem, ⟨0, _⟩ => ⟨S1x1024x512, .f32⟩
  | .local _ .vmem, ⟨1, _⟩ => ⟨S1x1024x512, .f32⟩
  | .local _ .vmem, ⟨2, _⟩ => ⟨S1x128x128, .bf16⟩
  | .local _ .vmem, ⟨3, _⟩ => ⟨S1x128x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x256x128, .bf16⟩
  | .local _ .vmem, ⟨15, _⟩ => ⟨S1x256x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x1024x512, .bf16⟩
  | .local _ .vmem, ⟨19, _⟩ => ⟨S1x1024x512, .bf16⟩
  | .local _ .smem, ⟨0, _⟩ => ⟨S8, .f32⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c8_i32_0 : BitVec 32 := 8#32
  let v1 : BitVec 32 := Scalar.addi v0 c8_i32_0
  let c31_i32 : BitVec 32 := 31#32
  let v2 : BitVec 32 := Scalar.minsi v1 c31_i32
  let c0_i32 : BitVec 32 := 0#32
  let c0_i32_1 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli c8_i32 arg1
  let c8_i32_0 : BitVec 32 := 8#32
  let v1 : BitVec 32 := Scalar.addi v0 c8_i32_0
  let c31_i32 : BitVec 32 := 31#32
  let v2 : BitVec 32 := Scalar.minsi v1 c31_i32
  let c0_i32 : BitVec 32 := 0#32
  let c0_i32_1 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "q_scale" => some (((1 / 8) * (Real.log 2)⁻¹ : ℝ) : EReal)
  | _ => none
-- ==== ReferenceIdeal.lean ====
abbrev S4x4096x8x64 : Shape := ⟨4, ![4, 4096, 8, 64]⟩
abbrev S4x4096x2x64 : Shape := ⟨4, ![4, 4096, 2, 64]⟩
abbrev S4x256x2x64 : Shape := ⟨4, ![4, 256, 2, 64]⟩
abbrev S8 : Shape := ⟨1, ![8]⟩
abbrev S4x32x128x2x4x64 : Shape := ⟨6, ![4, 32, 128, 2, 4, 64]⟩
abbrev S_ : Shape := ⟨0, ![]⟩
abbrev S4x4352x2x64 : Shape := ⟨4, ![4, 4352, 2, 64]⟩
abbrev S4x34x128x2x64 : Shape := ⟨5, ![4, 34, 128, 2, 64]⟩
abbrev S4x32x128x2x64 : Shape := ⟨5, ![4, 32, 128, 2, 64]⟩
abbrev S4x32x384x2x64 : Shape := ⟨5, ![4, 32, 384, 2, 64]⟩
abbrev S4x32x2x384x128x4 : Shape := ⟨6, ![4, 32, 2, 384, 128, 4]⟩
abbrev S4x32x2x4x128x384 : Shape := ⟨6, ![4, 32, 2, 4, 128, 384]⟩
abbrev S4x2x256x32x128x4 : Shape := ⟨6, ![4, 2, 256, 32, 128, 4]⟩
abbrev S4x32x2x4x128x256 : Shape := ⟨6, ![4, 32, 2, 4, 128, 256]⟩
abbrev S128 : Shape := ⟨1, ![128]⟩
abbrev S128x1 : Shape := ⟨2, ![128, 1]⟩
abbrev S384 : Shape := ⟨1, ![384]⟩
abbrev S1x384 : Shape := ⟨2, ![1, 384]⟩
abbrev S32 : Shape := ⟨1, ![32]⟩
abbrev S32x1x1 : Shape := ⟨3, ![32, 1, 1]⟩
abbrev S1x1x384 : Shape := ⟨3, ![1, 1, 384]⟩
abbrev S32x1x384 : Shape := ⟨3, ![32, 1, 384]⟩
abbrev S128x384 : Shape := ⟨2, ![128, 384]⟩
abbrev S1x128x384 : Shape := ⟨3, ![1, 128, 384]⟩
abbrev S32x128x384 : Shape := ⟨3, ![32, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S4x32x2x4x128x1 : Shape := ⟨6, ![4, 32, 2, 4, 128, 1]⟩
abbrev S4x32x2x4x128x641 : Shape := ⟨6, ![4, 32, 2, 4, 128, 641]⟩
abbrev S4x32x2x4x128 : Shape := ⟨5, ![4, 32, 2, 4, 128]⟩
abbrev S4x32x2x64x4x128 : Shape := ⟨6, ![4, 32, 2, 64, 4, 128]⟩
abbrev S4x2x64x32x4x128 : Shape := ⟨6, ![4, 2, 64, 32, 4, 128]⟩
abbrev S4x4096x2x4x64 : Shape := ⟨5, ![4, 4096, 2, 4, 64]⟩
abbrev S4x4096x4x2x64 : Shape := ⟨5, ![4, 4096, 4, 2, 64]⟩
abbrev S4x4096x512 : Shape := ⟨3, ![4, 4096, 512]⟩

abbrev nBuf : Space → Nat
  | .hbm => 103
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x2x64, .f32⟩
  | .hbm, ⟨2, _⟩ => ⟨S4x4096x2x64, .f32⟩
  | .hbm, ⟨3, _⟩ => ⟨S4x256x2x64, .f32⟩
  | .hbm, ⟨4, _⟩ => ⟨S4x256x2x64, .f32⟩
  | .hbm, ⟨5, _⟩ => ⟨S8, .f32⟩
  | .hbm, ⟨6, _⟩ => ⟨S4x32x128x2x4x64, .f32⟩
  | .hbm, ⟨7, _⟩ => ⟨S_, .i32⟩
  | .hbm, ⟨8, _⟩ => ⟨S_, .f32⟩
  | .hbm, ⟨9, _⟩ => ⟨S4x4352x2x64, .f32⟩
  | .hbm, ⟨10, _⟩ => ⟨S4x34x128x2x64, .f32⟩
  | .hbm, ⟨11, _⟩ => ⟨S_, .i32⟩
  | .hbm, ⟨12, _⟩ => ⟨S_, .f32⟩
  | .hbm, ⟨13, _⟩ => ⟨S4x4352x2x64, .f32⟩
  | .hbm, ⟨14, _⟩ => ⟨S4x34x128x2x64, .f32⟩
  | .hbm, ⟨15, _⟩ => ⟨S4x32x128x2x64, .f32⟩
  | .hbm, ⟨16, _⟩ => ⟨S4x32x128x2x64, .f32⟩
  | .hbm, ⟨17, _⟩ => ⟨S4x32x128x2x64, .f32⟩
  | .hbm, ⟨18, _⟩ => ⟨S4x32x384x2x64, .f32⟩
  | .hbm, ⟨19, _⟩ => ⟨S4x32x128x2x64, .f32⟩
  | .hbm, ⟨20, _⟩ => ⟨S4x32x128x2x64, .f32⟩
  | .hbm, ⟨21, _⟩ => ⟨S4x32x128x2x64, .f32⟩
  | .hbm, ⟨22, _⟩ => ⟨S4x32x384x2x64, .f32⟩
  | .hbm, ⟨23, _⟩ => ⟨S4x32x2x384x128x4, .f32⟩
  | .hbm, ⟨24, _⟩ => ⟨S4x32x2x4x128x384, .f32⟩
  | .hbm, ⟨25, _⟩ => ⟨S_, .f32⟩
  | .hbm, ⟨26, _⟩ => ⟨S4x32x2x4x128x384, .f32⟩
  | .hbm, ⟨27, _⟩ => ⟨S4x32x2x4x128x384, .f32⟩
  | .hbm, ⟨28, _⟩ => ⟨S4x2x256x32x128x4, .f32⟩
  | .hbm, ⟨29, _⟩ => ⟨S4x32x2x4x128x256, .f32⟩
  | .hbm, ⟨30, _⟩ => ⟨S_, .f32⟩
  | .hbm, ⟨31, _⟩ => ⟨S4x32x2x4x128x256, .f32⟩
  | .hbm, ⟨32, _⟩ => ⟨S4x32x2x4x128x256, .f32⟩
  | .hbm, ⟨33, _⟩ => ⟨S128, .i32⟩
  | .hbm, ⟨34, _⟩ => ⟨S128x1, .i32⟩
  | .hbm, ⟨35, _⟩ => ⟨S384, .i32⟩
  | .hbm, ⟨36, _⟩ => ⟨S1x384, .i32⟩
  | .hbm, ⟨37, _⟩ => ⟨S_, .i32⟩
  | .hbm, ⟨38, _⟩ => ⟨S1x384, .i32⟩
  | .hbm, ⟨39, _⟩ => ⟨S1x384, .i32⟩
  | .hbm, ⟨40, _⟩ => ⟨S32, .i32⟩
  | .hbm, ⟨41, _⟩ => ⟨S32x1x1, .i32⟩
  | .hbm, ⟨42, _⟩ => ⟨S_, .i32⟩
  | .hbm, ⟨43, _⟩ => ⟨S32x1x1, .i32⟩
  | .hbm, ⟨44, _⟩ => ⟨S32x1x1, .i32⟩
  | .hbm, ⟨45, _⟩ => ⟨S1x1x384, .i32⟩
  | .hbm, ⟨46, _⟩ => ⟨S32x1x384, .i32⟩
  | .hbm, ⟨47, _⟩ => ⟨S32x1x384, .i32⟩
  | .hbm, ⟨48, _⟩ => ⟨S32x1x384, .i32⟩
  | .hbm, ⟨49, _⟩ => ⟨S128x384, .i32⟩
  | .hbm, ⟨50, _⟩ => ⟨S128x384, .i32⟩
  | .hbm, ⟨51, _⟩ => ⟨S128x384, .i32⟩
  | .hbm, ⟨52, _⟩ => ⟨S128x384, .i32⟩
  | .hbm, ⟨53, _⟩ => ⟨S1x128x384, .i32⟩
  | .hbm, ⟨54, _⟩ => ⟨S_, .i32⟩
  | .hbm, ⟨55, _⟩ => ⟨S1x128x384, .i32⟩
  | .hbm, ⟨56, _⟩ => ⟨S1x128x384, .i1⟩
  | .hbm, ⟨57, _⟩ => ⟨S_, .i32⟩
  | .hbm, ⟨58, _⟩ => ⟨S32x1x384, .i32⟩
  | .hbm, ⟨59, _⟩ => ⟨S32x1x384, .i1⟩
  | .hbm, ⟨60, _⟩ => ⟨S32x128x384, .i1⟩
  | .hbm, ⟨61, _⟩ => ⟨S32x128x384, .i1⟩
  | .hbm, ⟨62, _⟩ => ⟨S32x128x384, .i1⟩
  | .hbm, ⟨63, _⟩ => ⟨S_, .i32⟩
  | .hbm, ⟨64, _⟩ => ⟨S32x1x384, .i32⟩
  | .hbm, ⟨65, _⟩ => ⟨S32x1x384, .i1⟩
  | .hbm, ⟨66, _⟩ => ⟨S32x128x384, .i1⟩
  | .hbm, ⟨67, _⟩ => ⟨S32x128x384, .i1⟩
  | .hbm, ⟨68, _⟩ => ⟨S1x32x1x1x128x384, .i1⟩
  | .hbm, ⟨69, _⟩ => ⟨S_, .f32⟩
  | .hbm, ⟨70, _⟩ => ⟨S_, .f32⟩
  | .hbm, ⟨71, _⟩ => ⟨S4x32x2x4x128x384, .i1⟩
  | .hbm, ⟨72, _⟩ => ⟨S4x32x2x4x128x384, .f32⟩
  | .hbm, ⟨73, _⟩ => ⟨S4x32x2x4x128x384, .f32⟩
  | .hbm, ⟨74, _⟩ => ⟨S2x4, .f32⟩
  | .hbm, ⟨75, _⟩ => ⟨S1x1x2x4x1x1, .f32⟩
  | .hbm, ⟨76, _⟩ => ⟨S4x32x2x4x128x1, .f32⟩
  | .hbm, ⟨77, _⟩ => ⟨S4x32x2x4x128x641, .f32⟩
  | .hbm, ⟨78, _⟩ => ⟨S_, .f32⟩
  | .hbm, ⟨79, _⟩ => ⟨S4x32x2x4x128, .f32⟩
  | .hbm, ⟨80, _⟩ => ⟨S_, .f32⟩
  | .hbm, ⟨81, _⟩ => ⟨S4x32x2x4x128, .f32⟩
  | .hbm, ⟨82, _⟩ => ⟨S4x32x2x4x128, .f32⟩
  | .hbm, ⟨83, _⟩ => ⟨S4x32x2x4x128x1, .f32⟩
  | .hbm, ⟨84, _⟩ => ⟨S4x32x2x4x128x641, .f32⟩
  | .hbm, ⟨85, _⟩ => ⟨S4x32x2x4x128x641, .f32⟩
  | .hbm, ⟨86, _⟩ => ⟨S4x32x2x4x128x641, .f32⟩
  | .hbm, ⟨87, _⟩ => ⟨S_, .f32⟩
  | .hbm, ⟨88, _⟩ => ⟨S4x32x2x4x128, .f32⟩
  | .hbm, ⟨89, _⟩ => ⟨S4x32x2x4x128x1, .f32⟩
  | .hbm, ⟨90, _⟩ => ⟨S4x32x2x4x128x641, .f32⟩
  | .hbm, ⟨91, _⟩ => ⟨S4x32x2x4x128x641, .f32⟩
  | .hbm, ⟨92, _⟩ => ⟨S4x32x2x4x128x384, .f32⟩
  | .hbm, ⟨93, _⟩ => ⟨S4x32x2x4x128x256, .f32⟩
  | .hbm, ⟨94, _⟩ => ⟨S4x32x2x64x4x128, .f32⟩
  | .hbm, ⟨95, _⟩ => ⟨S4x32x128x2x4x64, .f32⟩
  | .hbm, ⟨96, _⟩ => ⟨S4x2x64x32x4x128, .f32⟩
  | .hbm, ⟨97, _⟩ => ⟨S4x32x128x2x4x64, .f32⟩
  | .hbm, ⟨98, _⟩ => ⟨S4x32x128x2x4x64, .f32⟩
  | .hbm, ⟨99, _⟩ => ⟨S4x4096x2x4x64, .f32⟩
  | .hbm, ⟨100, _⟩ => ⟨S4x4096x4x2x64, .f32⟩
  | .hbm, ⟨101, _⟩ => ⟨S4x4096x512, .f32⟩
  | .hbm, ⟨102, _⟩ => ⟨S4x4096x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_4 : Ref sig .tc := ⟨.hbm, 54, rfl⟩
abbrev main_v40 : Ref sig .tc := ⟨.hbm, 55, rfl⟩
abbrev main_v41 : Ref sig .tc := ⟨.hbm, 56, rfl⟩
abbrev main_c_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x6144 : Shape := ⟨2, ![4, 6144]⟩
abbrev S1024 : Shape := ⟨1, ![1024]⟩
abbrev S1024x5632 : Shape := ⟨2, ![1024, 5632]⟩
abbrev S2816x1024 : Shape := ⟨2, ![2816, 1024]⟩
abbrev S4x6x1024 : Shape := ⟨3, ![4, 6, 1024]⟩
abbrev S1x1024 : Shape := ⟨2, ![1, 1024]⟩
abbrev S1x1024x1024 : Shape := ⟨3, ![1, 1024, 1024]⟩
abbrev S1x6x1024 : Shape := ⟨3, ![1, 6, 1024]⟩
abbrev S1x256x1024 : Shape := ⟨3, ![1, 256, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x1024 : Shape := ⟨2, ![1024, 1024]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 12
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4x6x1024, .f32⟩
  | .hbm, ⟨7, _⟩ => ⟨S1x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4x4096x1024 : Shape := ⟨3, ![4, 4096, 1024]⟩
abbrev S4x6144 : Shape := ⟨2, ![4, 6144]⟩
abbrev S1024 : Shape := ⟨1, ![1024]⟩
abbrev S1024x5632 : Shape := ⟨2, ![1024, 5632]⟩
abbrev S2816x1024 : Shape := ⟨2, ![2816, 1024]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x5632, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S_, .f32⟩
  | .hbm, ⟨42, _⟩ => ⟨S4x4096x2816, .f32⟩
  | .hbm, ⟨43, _⟩ => ⟨S4x4096x2816, .f32⟩
  | .hbm, ⟨44, _⟩ => ⟨S_, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1, .f32⟩
  | .hbm, ⟨64, _⟩ => ⟨S4x4096x1024, .f32⟩
  | .hbm, ⟨65, _⟩ => ⟨S4x4096x1024, .f32⟩
  | .hbm, ⟨66, _⟩ => ⟨S1x1x1024, .f32⟩
  | .hbm, ⟨67, _⟩ => ⟨S4x4096x1024, .f32⟩
  | .hbm, ⟨68, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x6144 : Shape := ⟨2, ![4, 6144]⟩
abbrev S1024 : Shape := ⟨1, ![1024]⟩
abbrev S1024x5632 : Shape := ⟨2, ![1024, 5632]⟩
abbrev S2816x1024 : Shape := ⟨2, ![2816, 1024]⟩
abbrev S4x6x1024 : Shape := ⟨3, ![4, 6, 1024]⟩
abbrev S1x1024 : Shape := ⟨2, ![1, 1024]⟩
abbrev S1x1024x1024 : Shape := ⟨3, ![1, 1024, 1024]⟩
abbrev S1x6x1024 : Shape := ⟨3, ![1, 6, 1024]⟩
abbrev S1x256x1024 : Shape := ⟨3, ![1, 256, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x1024 : Shape := ⟨2, ![1024, 1024]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 12
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4x6x1024, .f32⟩
  | .hbm, ⟨7, _⟩ => ⟨S1x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x4096x1024 : Shape := ⟨3, ![4, 4096, 1024]⟩
abbrev S4x6144 : Shape := ⟨2, ![4, 6144]⟩
abbrev S1024 : Shape := ⟨1, ![1024]⟩
abbrev S1024x5632 : Shape := ⟨2, ![1024, 5632]⟩
abbrev S2816x1024 : Shape := ⟨2, ![2816, 1024]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4x1x6144, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x5632, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S_, .f32⟩
  | .hbm, ⟨42, _⟩ => ⟨S4x4096x2816, .f32⟩
  | .hbm, ⟨43, _⟩ => ⟨S4x4096x2816, .f32⟩
  | .hbm, ⟨44, _⟩ => ⟨S_, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x6144 : Shape := ⟨2, ![4, 6144]⟩
abbrev S1024 : Shape := ⟨1, ![1024]⟩
abbrev S4x4096x512 : Shape := ⟨3, ![4, 4096, 512]⟩
abbrev S4x4x4096x128 : Shape := ⟨4, ![4, 4, 4096, 128]⟩
abbrev S128 : Shape := ⟨1, ![128]⟩
abbrev S1024x3072 : Shape := ⟨2, ![1024, 3072]⟩
abbrev S3072 : Shape := ⟨1, ![3072]⟩
abbrev S512x1024 : Shape := ⟨2, ![512, 1024]⟩
abbrev S1024x1024 : Shape := ⟨2, ![1024, 1024]⟩
abbrev S8 : Shape := ⟨1, ![8]⟩
abbrev S4x6x1024 : Shape := ⟨3, ![4, 6, 1024]⟩
abbrev S1x1024 : Shape := ⟨2, ![1, 1024]⟩
abbrev S4x4096x4x128 : Shape := ⟨4, ![4, 4096, 4, 128]⟩
abbrev S1x128 : Shape := ⟨2, ![1, 128]⟩
abbrev S1x3072 : Shape := ⟨2, ![1, 3072]⟩
abbrev S8x64x1024 : Shape := ⟨3, ![8, 64, 1024]⟩
abbrev S_ : Shape := ⟨0, ![]⟩
abbrev S8x1 : Shape := ⟨2, ![8, 1]⟩
abbrev S1x1024x1024 : Shape := ⟨3, ![1, 1024, 1024]⟩
abbrev S1x6x1024 : Shape := ⟨3, ![1, 6, 1024]⟩
abbrev S1x1024x512 : Shape := ⟨3, ![1, 1024, 512]⟩
abbrev S1x512x1024 : Shape := ⟨3, ![1, 512, 1024]⟩
abbrev S1x1x1024 : Shape := ⟨3, ![1, 1, 1024]⟩
abbrev S512 : Shape := ⟨1, ![512]⟩
abbrev S512x1 : Shape := ⟨2, ![512, 1]⟩
abbrev S1x512x512 : Shape := ⟨3, ![1, 512, 512]⟩
abbrev S512x512 : Shape := ⟨2, ![512, 512]⟩
abbrev S512x128 : Shape := ⟨2, ![512, 128]⟩

abbrev nBuf : Space → Nat
  | .hbm => 41
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S4x4096x512, .bf16⟩
  | .hbm, ⟨4, _⟩ => ⟨S4x4x4096x128, .f32⟩
  | .hbm, ⟨5, _⟩ => ⟨S4x4x4096x128, .f32⟩
  | .hbm, ⟨6, _⟩ => ⟨S4x4096x512, .f32⟩
  | .hbm, ⟨7, _⟩ => ⟨S4x4096x512, .bf16⟩
  | .hbm, ⟨8, _⟩ => ⟨S128, .f32⟩
  | .hbm, ⟨9, _⟩ => ⟨S1024x3072, .f32⟩
  | .hbm, ⟨10, _⟩ => ⟨S3072, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S8, .i32⟩
  | .hbm, ⟨16, _⟩ => ⟨S4x6x1024, .f32⟩
  | .hbm, ⟨17, _⟩ => ⟨S1x1024, .f32⟩
  | .hbm, ⟨18, _⟩ => ⟨S4x4096x4x128, .f32⟩
  | .hbm, ⟨19, _⟩ => ⟨S4x4096x512, .f32⟩
  | .hbm, ⟨20, _⟩ => ⟨S4x4096x4x128, .f32⟩
  | .hbm, ⟨21, _⟩ => ⟨S4x4096x512, .f32⟩
  | .hbm, ⟨22, _⟩ => ⟨S1x128, .f32⟩
  | .hbm, ⟨23, _⟩ => ⟨S1024x3072, .bf16⟩
  | .hbm, ⟨24, _⟩ => ⟨S1x3072, .f32⟩
  | .hbm, ⟨25, _⟩ => ⟨S8x64x1024, .f32⟩
  | .hbm, ⟨26, _⟩ => ⟨S_, .i32⟩
  | .hbm, ⟨27, _⟩ => ⟨S8, .i32⟩
  | .hbm, ⟨28, _⟩ => ⟨S8, .i1⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S8, .i32⟩
  | .hbm, ⟨33, _⟩ => ⟨S8x1, .i32⟩
  | .hbm, ⟨34, _⟩ => ⟨S8x64x1024, .f32⟩
  | .hbm, ⟨35, _⟩ => ⟨S512x1024, .f32⟩
  | .hbm, ⟨36, _⟩ => ⟨S512x1024, .bf16⟩
  | .hbm, ⟨37, _⟩ => ⟨S512x1024, .bf16⟩
  | .hbm, ⟨38, _⟩ => ⟨S512x1024, .bf16⟩
  | .hbm, ⟨39, _⟩ => ⟨S1024x1024, .bf16⟩
  | .hbm, ⟨40, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .bf16⟩
  | .local _ .vmem, ⟨14, _⟩ => ⟨S1x1024x512, .bf16⟩
  | .local _ .vmem, ⟨15, _⟩ => ⟨S1x128, .f32⟩
  | .local _ .vmem, ⟨16, _⟩ => ⟨S1024x3072, .bf16⟩
  | .local _ .vmem, ⟨17, _⟩ => ⟨S1x3072, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1x1024x1024, .f32⟩
  | .local _ .vmem, ⟨23, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference4Ideal.lean ====
abbrev S4x4096x1024 : Shape := ⟨3, ![4, 4096, 1024]⟩
abbrev S4x6144 : Shape := ⟨2, ![4, 6144]⟩
abbrev S1024 : Shape := ⟨1, ![1024]⟩
abbrev S4x4096x512 : Shape := ⟨3, ![4, 4096, 512]⟩
abbrev S4x4x4096x128 : Shape := ⟨4, ![4, 4, 4096, 128]⟩
abbrev S128 : Shape := ⟨1, ![128]⟩
abbrev S1024x3072 : Shape := ⟨2, ![1024, 3072]⟩
abbrev S3072 : Shape := ⟨1, ![3072]⟩
abbrev S512x1024 : Shape := ⟨2, ![512, 1024]⟩
abbrev S1024x1024 : Shape := ⟨2, ![1024, 1024]⟩
abbrev S4x1x6144 : Shape := ⟨3, ![4, 1, 6144]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4096x4x2x64 : Shape := ⟨5, ![4, 4096, 4, 2, 64]⟩
abbrev S4x4096x2x4x64 : Shape := ⟨5, ![4, 4096, 2, 4, 64]⟩
abbrev S4x4096x3072 : Shape := ⟨3, ![4, 4096, 3072]⟩
abbrev S1x1x3072 : Shape := ⟨3, ![1, 1, 3072]⟩

abbrev nBuf : Space → Nat
  | .hbm => 106
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S4x4096x512, .bf16⟩
  | .hbm, ⟨4, _⟩ => ⟨S4x4x4096x128, .f32⟩
  | .hbm, ⟨5, _⟩ => ⟨S4x4x4096x128, .f32⟩
  | .hbm, ⟨6, _⟩ => ⟨S4x4096x512, .f32⟩
  | .hbm, ⟨7, _⟩ => ⟨S4x4096x512, .bf16⟩
  | .hbm, ⟨8, _⟩ => ⟨S128, .f32⟩
  | .hbm, ⟨9, _⟩ => ⟨S1024x3072, .f32⟩
  | .hbm, ⟨10, _⟩ => ⟨S3072, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S4x1x6144, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x4096x1024, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1, .f32⟩
  | .hbm, ⟨33, _⟩ => ⟨S4x4096x1024, .f32⟩
  | .hbm, ⟨34, _⟩ => ⟨S4x4096x1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S4x4x4096x128, .f32⟩
  | .hbm, ⟨46, _⟩ => ⟨S4x4096x4x128, .f32⟩
  | .hbm, ⟨47, _⟩ => ⟨S4x4096x4x128, .f32⟩
  | .hbm, ⟨48, _⟩ => ⟨S_, .f32⟩
  | .hbm, ⟨49, _⟩ => ⟨S4x4096x4, .f32⟩
  | .hbm, ⟨50, _⟩ => ⟨S4x4096x4x1, .f32⟩
  | .hbm, ⟨51, _⟩ => ⟨S_, .f32⟩
  | .hbm, ⟨52, _⟩ => ⟨S4x4096x4x1, .f32⟩
  | .hbm, ⟨53, _⟩ => ⟨S4x4096x4x1, .f32⟩
  | .hbm, ⟨54, _⟩ => ⟨S_, .f32⟩
  | .hbm, ⟨55, _⟩ => ⟨S4x4096x4x1, .f32⟩
  | .hbm, ⟨56, _⟩ => ⟨S4x4096x4x1, .f32⟩
  | .hbm, ⟨57, _⟩ => ⟨S4x4096x4x1, .f32⟩
  | .hbm, ⟨58, _⟩ => ⟨S4x4096x4x128, .f32⟩
  | .hbm, ⟨59, _⟩ => ⟨S4x4096x4x128, .f32⟩
  | .hbm, ⟨60, _⟩ => ⟨S1x1x1x128, .f32⟩
  | .hbm, ⟨61, _⟩ => ⟨S4x4096x4x128, .f32⟩
  | .hbm, ⟨62, _⟩ => ⟨S4x4096x4x128, .f32⟩
  | .hbm, ⟨63, _⟩ => ⟨S4x4096x512, .f32⟩
  | .hbm, ⟨64, _⟩ => ⟨S4x4096x512, .f32⟩
  | .hbm, ⟨65, _⟩ => ⟨S4x4096x512, .f32⟩
  | .hbm, ⟨66, _⟩ => ⟨S_, .f32⟩
  | .hbm, ⟨67, _⟩ => ⟨S4x4096x512, .f32⟩
  | .hbm, ⟨68, _⟩ => ⟨S4x4096x512, .f32⟩
  | .hbm, ⟨69, _⟩ => ⟨S_, .f32⟩
  | .hbm, ⟨70, _⟩ => ⟨S4x4096x512, .f32⟩
  | .hbm, ⟨71, _⟩ => ⟨S4x4096x512, .f32⟩
  | .hbm, ⟨72, _⟩ => ⟨S4x4096x512, .f32⟩
  | .hbm, ⟨73, _⟩ => ⟨S4x4096x512, .f32⟩
  | .hbm, ⟨74, _⟩ => ⟨S4x4096x512, .f32⟩
  | .hbm, ⟨75, _⟩ => ⟨S4x4096x4x2x64, .f32⟩
  | .hbm, ⟨76, _⟩ => ⟨S4x4096x2x4x64, .f32⟩
  | .hbm, ⟨77, _⟩ => ⟨S4x4096x512, .f32⟩
  | .hbm, ⟨78, _⟩ => ⟨S4x4096x512, .f32⟩
  | .hbm, ⟨79, _⟩ => ⟨S4x4096x3072, .f32⟩
  | .hbm, ⟨80, _⟩ => ⟨S1x1x3072, .f32⟩
  | .hbm, ⟨81, _⟩ => ⟨S4x4096x3072, .f32⟩
  | .hbm, ⟨82, _⟩ => ⟨S4x4096x3072, .f32⟩
  | .hbm, ⟨83, _⟩ => ⟨S4x4096x3072, .f32⟩
  | .hbm, ⟨84, _⟩ => ⟨S4x4096x3072, .f32⟩
  | .hbm, ⟨85, _⟩ => ⟨S_, .f32⟩
  | .hbm, ⟨86, _⟩ => ⟨S4x4096x3072, .f32⟩
  | .hbm, ⟨87, _⟩ => ⟨S4x4096x3072, .f32⟩
  | .hbm, ⟨88, _⟩ => ⟨S_, .f32⟩
  | .hbm, ⟨89, _⟩ => ⟨S4x4096x3072, .f32⟩
  | .hbm, ⟨90, _⟩ => ⟨S4x4096x3072, .f32⟩
  | .hbm, ⟨91, _⟩ => ⟨S4x4096x1024, .f32⟩
  | .hbm, ⟨92, _⟩ => ⟨S4x4096x1024, .f32⟩
  | .hbm, ⟨93, _⟩ => ⟨S4x4096x1024, .f32⟩
  | .hbm, ⟨94, _⟩ => ⟨S4x4096x1024, .f32⟩
  | .hbm, ⟨95, _⟩ => ⟨S4x4096x1024, .f32⟩
  | .hbm, ⟨96, _⟩ => ⟨S4x4096x1024, .f32⟩
  | .hbm, ⟨97, _⟩ => ⟨S4x4096x1024, .f32⟩
  | .hbm, ⟨98, _⟩ => ⟨S4x4096x1024, .f32⟩
  | .hbm, ⟨99, _⟩ => ⟨S4x4096x1024, .f32⟩
  | .hbm, ⟨100, _⟩ => ⟨S4x4096x1024, .f32⟩
  | .hbm, ⟨101, _⟩ => ⟨S4x4096x1024, .f32⟩
  | .hbm, ⟨102, _⟩ => ⟨S4x4096x1024, .f32⟩
  | .hbm, ⟨103, _⟩ => ⟨S4x4096x1024, .f32⟩
  | .hbm, ⟨104, _⟩ => ⟨S4x4096x1024, .f32⟩
  | .hbm, ⟨105, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_6 : Ref sig .tc := ⟨.hbm, 85, rfl⟩
abbrev main_v55 : Ref sig .tc := ⟨.hbm, 86, rfl⟩
abbrev main_v56 : Ref sig .tc := ⟨.hbm, 87, rfl⟩
abbrev main_cst_7 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩

abbrev nD : Nat := 1
abbrev τ : Topo := Topo.v7x

variable {F : FTy → Type} [FloatOps F]
-- ==== Proof.WindowMath.lean ====
/-
  One query's attention over the extended reals, and the two ways the programs compute it.

  `attend` is the softmax as it is written: 384 logits of the keys around the query, those outside the band at minus
  infinity, 256 logits of the context's keys, one sink logit without a value. `rowOut` is what the call computes of
  them: logits to base 2, three tiles of 128 keys and two of the context added lane by lane, one division at the end.
  `rowOut_eq` says they agree.
-/
module

public import Idealize.ShloMosaic.Lib.Pointwise
public import Idealize.ShloMosaic.Lib.IdealHost

@[expose] public section

noncomputable section

namespace Cert.Window

open Idealize.ShloMosaic

/-- One over the natural logarithm of 2. -/
abbrev invLog2 : ℝ := (Real.log 2)⁻¹

theorem invLog2_pos : 0 < invLog2 := inv_pos.mpr (Real.log_pos (by norm_num))

/-- A sum of numbers, as a number. -/
theorem coe_sum {n : Nat} (f : Fin n → ℝ) : ((∑ j, f j : ℝ) : EReal) = ∑ j, (f j : EReal) := by
  induction (Finset.univ : Finset (Fin n)) using Finset.induction_on with
  | empty => simp
  | insert a t ha ih => rw [Finset.sum_insert ha, Finset.sum_insert ha, EReal.coe_add, ih]

/-! ## The softmax as it is written -/

/-- The largest of the logits. -/
def top (s : Fin 384 → EReal) (x : Fin 256 → EReal) (z : EReal) : EReal :=
  max (max (Finset.univ.sup s) (Finset.univ.sup x)) z

/-- The exponential of a logit, the largest subtracted. -/
def weight (s : Fin 384 → EReal) (x : Fin 256 → EReal) (z y : EReal) : EReal := Ideal.exp (y - top s x z)

/-- The sum of all the exponentials, the sink's among them. -/
def total (s : Fin 384 → EReal) (x : Fin 256 → EReal) (z : EReal) : EReal :=
  ∑ j, weight s x z (s j) + ∑ j, weight s x z (x j) + weight s x z z

/-- The values weighted by the softmax: `v` the keys' around the query, `w` the context's. -/
def attend (s : Fin 384 → EReal) (x : Fin 256 → EReal) (z : EReal) (v : Fin 384 → EReal) (w : Fin 256 → EReal) : EReal :=
  ∑ j, v j * Ideal.div (weight s x z (s j)) (total s x z) + ∑ j, w j * Ideal.div (weight s x z (x j)) (total s x z)

/-- The logits in one row of 641. -/
def joined (s : Fin 384 → EReal) (x : Fin 256 → EReal) (z : EReal) (j : Fin 641) : EReal :=
  if h : j.val < 384 then s ⟨j.val, h⟩ else if h' : j.val - 384 < 256 then x ⟨j.val - 384, h'⟩ else z

theorem joined_local (s : Fin 384 → EReal) (x : Fin 256 → EReal) (z : EReal) (j : Fin 384) :
    joined s x z ⟨j.val, by omega⟩ = s j := by simp [joined]

theorem joined_context (s : Fin 384 → EReal) (x : Fin 256 → EReal) (z : EReal) (j : Fin 256) :
    joined s x z ⟨384 + j.val, by omega⟩ = x j := by simp [joined]

theorem joined_sink (s : Fin 384 → EReal) (x : Fin 256 → EReal) (z : EReal) : joined s x z ⟨640, by omega⟩ = z := by
  simp [joined]

/-- The largest of the row of 641 is `top`. -/
theorem sup_joined (s : Fin 384 → EReal) (x : Fin 256 → EReal) (z : EReal) :
    Finset.univ.sup (joined s x z) = top s x z := by
  refine le_antisymm (Finset.sup_le fun j _ => ?_) (max_le (max_le (Finset.sup_le fun j _ => ?_) (Finset.sup_le fun j _ => ?_)) ?_)
  · unfold joined top
    split_ifs
    · exact le_max_of_le_left (le_max_of_le_left (Finset.le_sup (f := s) (Finset.mem_univ _)))
    · exact le_max_of_le_left (le_max_of_le_right (Finset.le_sup (f := x) (Finset.mem_univ _)))
    · exact le_max_right _ _
  · exact (joined_local s x z j).symm.le.trans (Finset.le_sup (f := joined s x z) (Finset.mem_univ _))
  · exact (joined_context s x z j).symm.le.trans (Finset.le_sup (f := joined s x z) (Finset.mem_univ _))
  · exact (joined_sink s x z).symm.le.trans (Finset.le_sup (f := joined s x z) (Finset.mem_univ _))

/-- The sum of the row of 641 exponentials is `total`. -/
theorem sum_joined (s : Fin 384 → EReal) (x : Fin 256 → EReal) (z : EReal) :
    ∑ j, weight s x z (joined s x z j) = total s x z := by
  rw [Fin.sum_univ_two_halves 640 1 rfl fun j : Fin 641 => weight s x z (joined s x z j),
    Fin.sum_univ_two_halves 384 256 rfl fun j : Fin 640 => weight s x z (joined s x z ⟨j.val, by omega⟩)]
  simp only [joined_local, joined_context, total, Finset.univ_unique, Finset.sum_singleton]
  rw [show joined s x z ⟨640 + (default : Fin 1).val, by omega⟩ = z from joined_sink s x z]

/-! ## The softmax as the call computes it -/

/-- The largest of three tiles of 128 logits, two tiles of the context's and the sink's. -/
def rowTop (a b c : Fin 128 → EReal) (x : Fin 256 → EReal) (z : EReal) : EReal :=
  Finset.univ.sup fun l : Fin 128 =>
    max (max (max (max (max (a l) (b l)) (c l)) (x ⟨l.val, by omega⟩)) (x ⟨128 + l.val, by omega⟩)) z

/-- The sum of the exponentials to base 2, lane by lane, the sink's in lane 0. -/
def rowTotal (a b c : Fin 128 → EReal) (x : Fin 256 → EReal) (z M : EReal) : EReal :=
  ∑ l : Fin 128, (Ideal.exp2 (a l - M) + Ideal.exp2 (b l - M) + Ideal.exp2 (c l - M) + Ideal.exp2 (x ⟨l.val, by omega⟩ - M)
    + Ideal.exp2 (x ⟨128 + l.val, by omega⟩ - M) + if l.val = 0 then Ideal.exp2 (z - M) else 0)

/-- The weighted values, divided by the sum of the weights. -/
def rowOut (a b c : Fin 128 → EReal) (x : Fin 256 → EReal) (z : EReal) (va vb vc : Fin 128 → EReal)
    (w : Fin 256 → EReal) : EReal :=
  Ideal.div (∑ l, Ideal.exp2 (a l - rowTop a b c x z) * va l + ∑ l, Ideal.exp2 (b l - rowTop a b c x z) * vb l
      + ∑ l, Ideal.exp2 (c l - rowTop a b c x z) * vc l + ∑ l, Ideal.exp2 (x l - rowTop a b c x z) * w l)
    (rowTotal a b c x z (rowTop a b c x z))

/-! ## They agree -/

/-- A logit to base 2 against the largest one, as the exponential of the logit. -/
theorem exp2_scaled (m : ℝ) (y : EReal) (hy : y = ⊥ ∨ ∃ r : ℝ, y = r) :
    Ideal.exp2 (y * (invLog2 : EReal) - (m : EReal) * (invLog2 : EReal)) = Ideal.exp (y - m) := by
  rcases hy with rfl | ⟨r, rfl⟩
  · rw [EReal.bot_mul_coe_of_pos invLog2_pos, ← EReal.coe_mul, EReal.bot_sub, EReal.bot_sub]
    rfl
  · rw [← EReal.coe_mul, ← EReal.coe_mul, ← EReal.coe_sub, ← EReal.coe_sub, Ideal.exp2_coe, Ideal.exp_coe]
    refine congrArg _ ?_
    rw [← sub_mul]
    have h : Real.log 2 ≠ 0 := (Real.log_pos (by norm_num)).ne'
    show (2 : ℝ) ^ ((r - m) * invLog2) = _
    rw [Real.rpow_def_of_pos (by norm_num)]
    congr 1
    field_simp

/-- Scaling by a positive number keeps the larger one the larger. -/
theorem max_scaled (u v : EReal) : max (u * (invLog2 : EReal)) (v * (invLog2 : EReal)) = max u v * (invLog2 : EReal) := by
  have hm : Monotone fun y : EReal => y * (invLog2 : EReal) :=
    fun _ _ h => mul_le_mul_of_nonneg_right h (by exact_mod_cast invLog2_pos.le)
  exact (hm.map_max (a := u) (b := v)).symm

theorem sup_scaled {n : Nat} (f : Fin n → EReal) :
    Finset.univ.sup (fun l => f l * (invLog2 : EReal)) = Finset.univ.sup f * (invLog2 : EReal) :=
  (Finset.comp_sup_eq_sup_comp (s := Finset.univ) (f := f) (fun y : EReal => y * (invLog2 : EReal))
    (fun u v => (max_scaled u v).symm) (EReal.bot_mul_coe_of_pos invLog2_pos)).symm

/-- The largest of three, two and one tiles is the largest of all the logits. -/
theorem rowTop_eq (s : Fin 384 → EReal) (x : Fin 256 → EReal) (z : EReal) :
    rowTop (fun l => s ⟨l.val, by omega⟩) (fun l => s ⟨128 + l.val, by omega⟩) (fun l => s ⟨256 + l.val, by omega⟩) x z
      = top s x z := by
  unfold rowTop top
  refine le_antisymm (Finset.sup_le fun l _ => ?_) (max_le (max_le (Finset.sup_le fun j _ => ?_) (Finset.sup_le fun j _ => ?_)) ?_)
  · have hs (j : Fin 384) : s j ≤ max (max (Finset.univ.sup s) (Finset.univ.sup x)) z :=
      le_max_of_le_left (le_max_of_le_left (Finset.le_sup (f := s) (Finset.mem_univ j)))
    have hx (j : Fin 256) : x j ≤ max (max (Finset.univ.sup s) (Finset.univ.sup x)) z :=
      le_max_of_le_left (le_max_of_le_right (Finset.le_sup (f := x) (Finset.mem_univ j)))
    exact max_le (max_le (max_le (max_le (max_le (hs _) (hs _)) (hs _)) (hx _)) (hx _)) (le_max_right _ _)
  · have key (l : Fin 128) := Finset.le_sup (f := fun l : Fin 128 =>
      max (max (max (max (max (s ⟨l.val, by omega⟩) (s ⟨128 + l.val, by omega⟩)) (s ⟨256 + l.val, by omega⟩))
        (x ⟨l.val, by omega⟩)) (x ⟨128 + l.val, by omega⟩)) z) (Finset.mem_univ l)
    simp only [max_le_iff] at key
    rcases Nat.lt_or_ge j.val 128 with h | h
    · exact (key ⟨j.val, h⟩).1.1.1.1.1
    · rcases Nat.lt_or_ge j.val 256 with h' | h'
      · have := (key ⟨j.val - 128, by omega⟩).1.1.1.1.2
        have e : (⟨128 + (j.val - 128), by omega⟩ : Fin 384) = j := Fin.ext (by simp only; omega)
        simpa only [e] using this
      · have := (key ⟨j.val - 256, by omega⟩).1.1.1.2
        have e : (⟨256 + (j.val - 256), by omega⟩ : Fin 384) = j := Fin.ext (by simp only; omega)
        simpa only [e] using this
  · have key (l : Fin 128) := Finset.le_sup (f := fun l : Fin 128 =>
      max (max (max (max (max (s ⟨l.val, by omega⟩) (s ⟨128 + l.val, by omega⟩)) (s ⟨256 + l.val, by omega⟩))
        (x ⟨l.val, by omega⟩)) (x ⟨128 + l.val, by omega⟩)) z) (Finset.mem_univ l)
    simp only [max_le_iff] at key
    rcases Nat.lt_or_ge j.val 128 with h | h
    · exact (key ⟨j.val, h⟩).1.1.2
    · have := (key ⟨j.val - 128, by omega⟩).1.2
      have e : (⟨128 + (j.val - 128), by omega⟩ : Fin 256) = j := Fin.ext (by simp only; omega)
      simpa only [e] using this
  · exact le_trans (le_max_right _ _) (Finset.le_sup (f := fun l : Fin 128 =>
      max (max (max (max (max (s ⟨l.val, by omega⟩) (s ⟨128 + l.val, by omega⟩)) (s ⟨256 + l.val, by omega⟩))
        (x ⟨l.val, by omega⟩)) (x ⟨128 + l.val, by omega⟩)) z) (Finset.mem_univ (0 : Fin 128)))

/-- A sum over the 384 keys, cut into three tiles. -/
theorem sum_tiles (f : Fin 384 → EReal) :
    ∑ j, f j = (∑ l : Fin 128, f ⟨l.val, by omega⟩) + (∑ l : Fin 128, f ⟨128 + l.val, by omega⟩)
      + ∑ l : Fin 128, f ⟨256 + l.val, by omega⟩ := by
  rw [Fin.sum_univ_two_halves 256 128 rfl f, Fin.sum_univ_two_halves 128 128 rfl fun j : Fin 256 => f ⟨j.val, by omega⟩]

/-- A sum times a nonnegative number, term by term, whatever the terms. -/
theorem sum_mul_real {n : Nat} (f : Fin n → EReal) (u : ℝ) (hu : 0 ≤ u) :
    (∑ j, f j) * (u : EReal) = ∑ j, f j * (u : EReal) := by
  induction (Finset.univ : Finset (Fin n)) using Finset.induction_on with
  | empty => simp
  | insert a t ha ih =>
    rw [Finset.sum_insert ha, Finset.sum_insert ha, ← ih]
    exact EReal.right_distrib_of_nonneg_of_ne_top (by exact_mod_cast hu) (EReal.coe_ne_top u) _ _

/-- THE TWO SOFTMAXES AGREE: the logits being minus infinity or a number, the context's and the sink's numbers, the
    call's logits the same ones to base 2, and the values the same wherever a logit is not minus infinity. -/
theorem rowOut_eq (s : Fin 384 → EReal) (x : Fin 256 → EReal) (z : EReal) (v : Fin 384 → EReal) (w : Fin 256 → EReal)
    (a b c va vb vc : Fin 128 → EReal) (y : Fin 256 → EReal) (t : EReal)
    (hs : ∀ j, s j = ⊥ ∨ ∃ r : ℝ, s j = r) (hx : ∀ j, ∃ r : ℝ, x j = r) (hz : ∃ r : ℝ, z = r)
    (ha : ∀ l, a l = s ⟨l.val, by omega⟩ * (invLog2 : EReal)) (hb : ∀ l, b l = s ⟨128 + l.val, by omega⟩ * (invLog2 : EReal))
    (hc : ∀ l, c l = s ⟨256 + l.val, by omega⟩ * (invLog2 : EReal)) (hy : ∀ j, y j = x j * (invLog2 : EReal))
    (ht : t = z * (invLog2 : EReal))
    (hva : ∀ l : Fin 128, s ⟨l.val, by omega⟩ = ⊥ ∨ va l = v ⟨l.val, by omega⟩)
    (hvb : ∀ l : Fin 128, s ⟨128 + l.val, by omega⟩ = ⊥ ∨ vb l = v ⟨128 + l.val, by omega⟩)
    (hvc : ∀ l : Fin 128, s ⟨256 + l.val, by omega⟩ = ⊥ ∨ vc l = v ⟨256 + l.val, by omega⟩) :
    rowOut a b c y t va vb vc w = attend s x z v w := by
  obtain rfl : a = fun l => s ⟨l.val, by omega⟩ * (invLog2 : EReal) := funext ha
  obtain rfl : b = fun l => s ⟨128 + l.val, by omega⟩ * (invLog2 : EReal) := funext hb
  obtain rfl : c = fun l => s ⟨256 + l.val, by omega⟩ * (invLog2 : EReal) := funext hc
  obtain rfl : y = fun j => x j * (invLog2 : EReal) := funext hy
  subst ht
  -- the largest logit is a number
  obtain ⟨m, hm⟩ : ∃ m : ℝ, top s x z = m := by
    obtain ⟨r, hr⟩ := hz
    refine ⟨(top s x z).toReal, (EReal.coe_toReal ?_ ?_).symm⟩
    · refine ne_of_lt ?_
      unfold top
      refine max_lt (max_lt ?_ ?_) (hr ▸ EReal.coe_lt_top r)
      · refine (Finset.sup_lt_iff bot_lt_top).mpr fun j _ => ?_
        rcases hs j with h | ⟨q, h⟩ <;> rw [h]
        · exact bot_lt_top
        · exact EReal.coe_lt_top q
      · refine (Finset.sup_lt_iff bot_lt_top).mpr fun j _ => ?_
        obtain ⟨q, h⟩ := hx j
        rw [h]
        exact EReal.coe_lt_top q
    · refine ne_of_gt (lt_of_lt_of_le ?_ (le_max_right _ _))
      rw [hr]
      exact EReal.bot_lt_coe r
  have hM : rowTop (fun l => s ⟨l.val, by omega⟩ * (invLog2 : EReal)) (fun l => s ⟨128 + l.val, by omega⟩ * (invLog2 : EReal))
      (fun l => s ⟨256 + l.val, by omega⟩ * (invLog2 : EReal)) (fun j => x j * (invLog2 : EReal)) (z * (invLog2 : EReal))
      = (m : EReal) * (invLog2 : EReal) := by
    rw [← hm, ← rowTop_eq]
    unfold rowTop
    simp only [max_scaled]
    exact sup_scaled _
  have hsx (j : Fin 384) := exp2_scaled m (s j) (hs j)
  have hxx (j : Fin 256) := exp2_scaled m (x j) (.inr (hx j))
  have hzx := exp2_scaled m z (.inr hz)
  -- the weights are numbers
  have hp : ∀ j, ∃ p : ℝ, 0 ≤ p ∧ Ideal.exp (s j - m) = p ∧ (s j = ⊥ → p = 0) := by
    intro j
    rcases hs j with h | ⟨r, h⟩
    · exact ⟨0, le_rfl, by rw [h, EReal.bot_sub]; rfl, fun _ => rfl⟩
    · exact ⟨Real.exp (r - m), (Real.exp_pos _).le, by rw [h, ← EReal.coe_sub]; rfl,
        fun e => absurd (h.symm.trans e) (EReal.coe_ne_bot r)⟩
  have hq : ∀ j, ∃ p : ℝ, 0 ≤ p ∧ Ideal.exp (x j - m) = p := by
    intro j
    obtain ⟨r, h⟩ := hx j
    exact ⟨Real.exp (r - m), (Real.exp_pos _).le, by rw [h, ← EReal.coe_sub]; rfl⟩
  obtain ⟨g, hg, hgz⟩ : ∃ g : ℝ, 0 < g ∧ Ideal.exp (z - m) = g := by
    obtain ⟨r, h⟩ := hz
    exact ⟨Real.exp (r - m), Real.exp_pos _, by rw [h, ← EReal.coe_sub]; rfl⟩
  choose p hp0 hpe hpb using hp
  choose q hq0 hqe using hq
  have htot : total s x z = ((∑ j, p j + ∑ j, q j + g : ℝ) : EReal) := by
    simp only [total, weight, hm, hpe, hqe, hgz]
    rw [EReal.coe_add, EReal.coe_add]
    simp only [coe_sum]
  have hT : 0 < ∑ j, p j + ∑ j, q j + g :=
    add_pos_of_nonneg_of_pos (add_nonneg (Finset.sum_nonneg fun j _ => hp0 j) (Finset.sum_nonneg fun j _ => hq0 j)) hg
  have hrow : rowTotal (fun l => s ⟨l.val, by omega⟩ * (invLog2 : EReal)) (fun l => s ⟨128 + l.val, by omega⟩ * (invLog2 : EReal))
      (fun l => s ⟨256 + l.val, by omega⟩ * (invLog2 : EReal)) (fun j => x j * (invLog2 : EReal)) (z * (invLog2 : EReal))
      ((m : EReal) * (invLog2 : EReal)) = total s x z := by
    have h0 : ∑ l : Fin 128, (if l.val = 0 then (g : EReal) else 0) = g := by
      refine (Finset.sum_eq_single (0 : Fin 128) (fun l _ hl => if_neg fun e => hl (Fin.ext e))
        (fun h => absurd (Finset.mem_univ _) h)).trans rfl
    unfold rowTotal
    simp only [hsx, hxx, hzx, Finset.sum_add_distrib, hgz, h0]
    unfold total
    rw [sum_tiles fun j => weight s x z (s j), Fin.sum_univ_two_halves 128 128 rfl fun j : Fin 256 => weight s x z (x j)]
    simp only [weight, hm, hgz]
    simp only [add_assoc]
  unfold rowOut attend
  rw [hM, hrow, htot]
  set T : ℝ := ∑ j, p j + ∑ j, q j + g with hTdef
  simp only [hsx, hxx, weight, hm, hpe, hqe, Ideal.div_coe hT.ne']
  have hu : 0 ≤ 1 / T := (one_div_pos.mpr hT).le
  have ha' (l : Fin 128) : (p ⟨l.val, by omega⟩ : EReal) * va l = p ⟨l.val, by omega⟩ * v ⟨l.val, by omega⟩ := by
    rcases hva l with h | h
    · rw [hpb _ h, EReal.coe_zero, zero_mul, zero_mul]
    · rw [h]
  have hb' (l : Fin 128) : (p ⟨128 + l.val, by omega⟩ : EReal) * vb l = p ⟨128 + l.val, by omega⟩ * v ⟨128 + l.val, by omega⟩ := by
    rcases hvb l with h | h
    · rw [hpb _ h, EReal.coe_zero, zero_mul, zero_mul]
    · rw [h]
  have hc' (l : Fin 128) : (p ⟨256 + l.val, by omega⟩ : EReal) * vc l = p ⟨256 + l.val, by omega⟩ * v ⟨256 + l.val, by omega⟩ := by
    rcases hvc l with h | h
    · rw [hpb _ h, EReal.coe_zero, zero_mul, zero_mul]
    · rw [h]
  simp only [ha', hb', hc']
  rw [← sum_tiles fun j => (p j : EReal) * v j, EReal.right_distrib_of_nonneg_of_ne_top (by exact_mod_cast hu) (EReal.coe_ne_top _),
    sum_mul_real _ _ hu, sum_mul_real _ _ hu]
  refine congrArg₂ (· + ·) (Finset.sum_congr rfl fun j _ => ?_) (Finset.sum_congr rfl fun j _ => ?_)
  · rw [mul_comm (p j : EReal), mul_assoc]
  · rw [mul_comm (q j : EReal), mul_assoc]

/-! ## The logits -/

/-- A query against a key, scaled by one eighth. -/
def logit (q k : Fin 64 → EReal) : EReal := (∑ e, k e * q e) * Ideal.ofBits .f32 0x3E000000#32

theorem eighth : Ideal.ofBits .f32 0x3E000000#32 = ((1 / 8 : ℝ) : EReal) := by
  simp [Ideal.ofBits, Ideal.ieee, -EReal.coe_mul]; norm_num

theorem minus_infinity : Ideal.ofBits .f32 0xFF800000#32 = ⊥ := by
  simp [Ideal.ofBits, Ideal.ieee]

/-- A finite query against a finite key is a number. -/
theorem logit_real (q k : Fin 64 → EReal) (hq : ∀ e, ∃ r : ℝ, q e = r) (hk : ∀ e, ∃ r : ℝ, k e = r) :
    ∃ r : ℝ, logit q k = r := by
  choose q' hq using hq
  choose k' hk using hk
  refine ⟨(∑ e, k' e * q' e) * (1 / 8), ?_⟩
  simp only [logit, hq, hk, eighth, ← EReal.coe_mul]
  rw [← coe_sum, ← EReal.coe_mul]

/-- The call's logit: the query scaled by `1 / (8 log 2)` first. -/
theorem scaled_logit (q k : Fin 64 → EReal) (hq : ∀ e, ∃ r : ℝ, q e = r) (hk : ∀ e, ∃ r : ℝ, k e = r) :
    ∑ e, q e * (((1 / 8) * invLog2 : ℝ) : EReal) * k e = logit q k * (invLog2 : EReal) := by
  choose q' hq using hq
  choose k' hk using hk
  simp only [logit, hq, hk, eighth, ← EReal.coe_mul]
  rw [← coe_sum, ← coe_sum, ← EReal.coe_mul, ← EReal.coe_mul]
  refine congrArg _ ?_
  rw [Finset.sum_mul, Finset.sum_mul]
  exact Finset.sum_congr rfl fun e _ => by ring

/-- A sum over 128 lanes of which only one head's 64 are not zeroed. -/
theorem sum_half (h : Fin 2) (f k : Fin 128 → EReal) :
    ∑ l : Fin 128, (if l.val / 64 = h.val then f l else 0) * k l
      = ∑ e : Fin 64, f ⟨h.val * 64 + e.val, by omega⟩ * k ⟨h.val * 64 + e.val, by omega⟩ := by
  rw [Fin.sum_univ_two_halves 64 64 rfl fun l : Fin 128 => (if l.val / 64 = h.val then f l else 0) * k l]
  have hlo (e : Fin 64) : e.val / 64 = 0 := by omega
  have hhi (e : Fin 64) : (64 + e.val) / 64 = 1 := by omega
  simp only [hlo, hhi]
  match h with
  | ⟨0, _⟩ => simp
  | ⟨1, _⟩ => simp

/-! ## Words of 32 bits -/

/-- A small number, as a 32-bit word and back. -/
theorem toInt_small (k : Nat) (h : k < 1048576) : (BitVec.ofNat 32 k).toInt = k := by
  rw [BitVec.toInt_eq_toNat_of_lt] <;> rw [BitVec.toNat_ofNat, Nat.mod_eq_of_lt (by omega)]
  omega

end Cert.Window

end
-- ==== Proof.WindowBody.lean ====
/-
  What the call's body computes of one block of 128 queries (WindowMath's `rowOut`), read off its sequence of values.

  The eight heads' queries are stacked: row `R` of 1024 is row `R % 128` of the head at place `R / 128`; heads come in
  pairs of 128 lanes, each of the two with the other's 64 lanes zeroed, so that one product with both key heads' lanes
  gives its own key head's logits.
-/
module

public import proofs.«01_k».proof.Proof.Gen.KernelIdeal.Skeleton
public import Idealize.ShloMosaic.Lib.Pointwise
public import proofs.«01_k».proof.Proof.WindowMath

@[expose] public section

set_option maxRecDepth 16384

noncomputable section

namespace Cert.Window

open Idealize.ShloMosaic
open Cert.KernelIdeal Cert.KernelIdeal.Gen

/-- The factor of the queries: one eighth, to base 2. -/
abbrev qScale : EReal := (((1 / 8) * invLog2 : ℝ) : EReal)

theorem named_qScale : (Named.named κ "q_scale" 0x3E38AA3B#32 : Ideal .f32) = qScale :=
  IdealRules.named_const.ideal_named_scalar _ _ _ _ rfl

theorem named_log2e : (Named.named κ "log2e" 0x3FB8AA3B#32 : Ideal .f32) = ((invLog2 : ℝ) : EReal) :=
  IdealRules.named_const.ideal_named_scalar _ _ _ _ rfl

/-! ## The comparisons of lanes -/

theorem lane_low (l : Fin 128) : IntOp.cmpi .slt (BitVec.ofNat 32 l.val) 64#32 = BitVec.ofBool (decide (l.val < 64)) := by
  simp only [IntOp.cmpi, BitVec.slt, toInt_small l.val (by omega), show (64#32).toInt = 64 from rfl]
  exact congrArg _ (decide_eq_decide.mpr (by omega))

theorem lane_high (l : Fin 128) : IntOp.cmpi .sge (BitVec.ofNat 32 l.val) 64#32 = BitVec.ofBool (decide (64 ≤ l.val)) := by
  simp only [IntOp.cmpi, BitVec.sle, toInt_small l.val (by omega), show (64#32).toInt = 64 from rfl]
  exact congrArg _ (decide_eq_decide.mpr (by omega))

theorem lane_first (l : Fin 128) : IntOp.cmpi .eq (BitVec.ofNat 32 l.val) 0#32 = BitVec.ofBool (decide (l.val = 0)) := by
  revert l; decide +kernel

theorem lane_ge (r l : Fin 128) : IntOp.cmpi .sge (BitVec.ofNat 32 l.val) (BitVec.ofNat 32 r.val) = BitVec.ofBool (decide (r.val ≤ l.val)) := by
  simp only [IntOp.cmpi, BitVec.sle, toInt_small l.val (by omega), toInt_small r.val (by omega)]
  exact congrArg _ (decide_eq_decide.mpr (by omega))

theorem lane_le (r l : Fin 128) : IntOp.cmpi .sle (BitVec.ofNat 32 l.val) (BitVec.ofNat 32 r.val) = BitVec.ofBool (decide (l.val ≤ r.val)) := by
  simp only [IntOp.cmpi, BitVec.sle, toInt_small l.val (by omega), toInt_small r.val (by omega)]
  exact congrArg _ (decide_eq_decide.mpr (by omega))

/-- A choice by a decided proposition. -/
theorem select_decide {α : Type} (P : Prop) [Decidable P] (a b : α) :
    Scalar.select (BitVec.ofBool (decide P)) a b = if P then a else b := by
  by_cases h : P <;> simp only [h, decide_true, decide_false, if_true, if_false] <;> rfl

/-! ## The stacked queries -/

/-- Two heads' queries of one block, each with the other's lanes zeroed. -/
theorem half_apply (q : Vec Ideal S1x128x128 .f32) (R : Fin 256) (l : Fin 128) :
    k0_pay16 (F := Ideal) q (ix2 R l)
      = if l.val / 64 = R.val / 128 then q (ix3 0 ⟨R.val % 128, by omega⟩ l) * qScale else 0 := by
  pointwise [k0_pay16]
  rw [named_qScale, lane_low, lane_high]
  have hl := l.isLt
  have hR := R.isLt
  by_cases h : R.val < 128
  · have e : (⟨R.val % 128, by omega⟩ : Fin 128) = ⟨R.val, h⟩ := Fin.ext (Nat.mod_eq_of_lt h)
    rw [dif_pos h, e]
    exact (select_decide _ _ _).trans (if_congr (by omega) rfl rfl)
  · have e : (⟨R.val % 128, by omega⟩ : Fin 128) = ⟨R.val - 128, by omega⟩ := Fin.ext (by simp only; omega)
    rw [dif_neg h, e]
    exact (select_decide _ _ _).trans (if_congr (by omega) rfl rfl)

variable (Q : Fin 4 → Vec Ideal S1x128x128 .f32)

/-- The query of stacked row `R`, in the 64 lanes of its head. -/
def rowQ (R : Fin 1024) : Fin 64 → EReal := fun e =>
  Q ⟨R.val / 256, by omega⟩ (ix3 0 ⟨R.val % 128, by omega⟩ ⟨R.val / 128 % 2 * 64 + e.val, by omega⟩)

theorem pair_case (k : Fin 4) (R : Fin 1024) (R' : Nat) (hR' : R' < 256) (h : R.val = k.val * 256 + R') (l : Fin 128) :
    (if l.val / 64 = R' / 128 then Q k (ix3 0 ⟨R' % 128, by omega⟩ l) * qScale else 0)
      = if l.val / 64 = R.val / 128 % 2 then Q ⟨R.val / 256, by omega⟩ (ix3 0 ⟨R.val % 128, by omega⟩ l) * qScale else 0 := by
  have hk : (⟨R.val / 256, by omega⟩ : Fin 4) = k := Fin.ext (by simp only; omega)
  have hr : (⟨R.val % 128, by omega⟩ : Fin 128) = ⟨R' % 128, by omega⟩ := Fin.ext (by simp only; omega)
  rw [hk, hr]
  exact if_congr (by omega) rfl rfl

/-- The four pairs stacked. -/
theorem queries_apply (R : Fin 1024) (l : Fin 128) :
    k0_pay20 (F := Ideal) (k0_pay16 (Q 0)) (k0_pay16 (Q 1)) (k0_pay16 (Q 2)) (k0_pay16 (Q 3)) (ix2 R l)
      = if l.val / 64 = R.val / 128 % 2 then Q ⟨R.val / 256, by omega⟩ (ix3 0 ⟨R.val % 128, by omega⟩ l) * qScale else 0 := by
  pointwise [k0_pay20, half_apply]
  have hR := R.isLt
  by_cases h0 : R.val < 256
  · rw [dif_pos h0]
    exact pair_case Q 0 R _ h0 (Nat.zero_add _).symm l
  rw [dif_neg h0]
  by_cases h1 : R.val - 256 < 256
  · rw [dif_pos h1]
    exact pair_case Q 1 R _ h1 (by simp; omega) l
  rw [dif_neg h1]
  by_cases h2 : R.val - 256 - 256 < 256
  · rw [dif_pos h2]
    exact pair_case Q 2 R _ h2 (by simp; omega) l
  rw [dif_neg h2]
  exact pair_case Q 3 R _ (by omega) (by simp; omega) l

/-- A stacked row against a key of both key heads: its own key head's lanes. -/
def rowScore (R : Fin 1024) (k : Fin 128 → EReal) : EReal :=
  ∑ e : Fin 64, rowQ Q R e * qScale * k ⟨R.val / 128 % 2 * 64 + e.val, by omega⟩

theorem score_apply (R : Fin 1024) (k : Fin 128 → EReal) :
    ∑ x : Fin 128, k0_pay20 (F := Ideal) (k0_pay16 (Q 0)) (k0_pay16 (Q 1)) (k0_pay16 (Q 2)) (k0_pay16 (Q 3)) (ix2 R x) * k x
      = rowScore Q R k := by
  simp only [queries_apply]
  exact sum_half ⟨R.val / 128 % 2, by omega⟩ (fun l => Q ⟨R.val / 256, by omega⟩ (ix3 0 ⟨R.val % 128, by omega⟩ l) * qScale) k

/-! ## One block's rows -/

variable (z : Vec Ideal S1024x128 .f32) (mp mn : Vec Ideal S128x128 .f32) (kp kc kn vp vc vn : Vec Ideal S128x128 .bf16)
  (kx vx : Vec Ideal S256x128 .bf16)

/-- The logits to base 2 of row `R`: the block before, masked; its own block; the block after, masked; the context. -/
abbrev rowA (R : Fin 1024) (l : Fin 128) : EReal := rowScore Q R (fun x => kp (ix2 l x)) + mp (ix2 ⟨R.val % 128, by omega⟩ l)
abbrev rowB (R : Fin 1024) (l : Fin 128) : EReal := rowScore Q R (fun x => kc (ix2 l x))
abbrev rowX (R : Fin 1024) (l : Fin 256) : EReal := rowScore Q R (fun x => kx (ix2 l x))

theorem before_apply (R : Fin 1024) (l : Fin 128) :
    k0_pay21 (F := Ideal) mp kp (k0_pay16 (Q 0)) (k0_pay16 (Q 1)) (k0_pay16 (Q 2)) (k0_pay16 (Q 3)) (ix2 R l) = rowA Q mp kp R l := by
  pointwise [k0_pay21]
  refine congrArg₂ (· + ·) (score_apply Q R fun x => kp (ix2 l x)) ?_
  split_ifs <;> (refine congrArg (fun r => mp (ix2 r l)) (Fin.ext ?_); simp only; omega)

theorem own_apply (R : Fin 1024) (l : Fin 128) :
    k0_pay22 (F := Ideal) kc (k0_pay16 (Q 0)) (k0_pay16 (Q 1)) (k0_pay16 (Q 2)) (k0_pay16 (Q 3)) (ix2 R l) = rowB Q kc R l := by
  pointwise [k0_pay22]
  exact score_apply Q R fun x => kc (ix2 l x)

theorem after_apply (R : Fin 1024) (l : Fin 128) :
    k0_pay23 (F := Ideal) mn kn (k0_pay16 (Q 0)) (k0_pay16 (Q 1)) (k0_pay16 (Q 2)) (k0_pay16 (Q 3)) (ix2 R l) = rowA Q mn kn R l := by
  pointwise [k0_pay23]
  refine congrArg₂ (· + ·) (score_apply Q R fun x => kn (ix2 l x)) ?_
  split_ifs <;> (refine congrArg (fun r => mn (ix2 r l)) (Fin.ext ?_); simp only; omega)

theorem context_apply (R : Fin 1024) (l : Fin 256) :
    k0_pay24 (F := Ideal) kx (k0_pay16 (Q 0)) (k0_pay16 (Q 1)) (k0_pay16 (Q 2)) (k0_pay16 (Q 3)) (ix2 R l) = rowX Q kx R l := by
  pointwise [k0_pay24]
  exact score_apply Q R fun x => kx (ix2 l x)

theorem top_apply (R : Fin 1024) (zz : EReal) (hz : ∀ l, z (ix2 R l) = zz) :
    k0_pay25 (F := Ideal) z mn kx mp kp kc kn (k0_pay16 (Q 0)) (k0_pay16 (Q 1)) (k0_pay16 (Q 2)) (k0_pay16 (Q 3)) (ix2 R 0)
      = rowTop (rowA Q mp kp R) (rowB Q kc R) (rowA Q mn kn R) (rowX Q kx R) zz := by
  pointwise [k0_pay25, before_apply, own_apply, after_apply, context_apply]
  simp only [hz]
  rw [minus_infinity]
  rfl

/-- The largest logit of row `R`. -/
abbrev rowM (zz : EReal) (R : Fin 1024) : EReal :=
  rowTop (rowA Q mp kp R) (rowB Q kc R) (rowA Q mn kn R) (rowX Q kx R) zz

variable (R : Fin 1024) (zz : EReal) (hz : ∀ l, z (ix2 R l) = zz)

include hz

theorem exp_before (l : Fin 128) :
    k0_pay26 (F := Ideal) z mn kx mp kp kc kn (k0_pay16 (Q 0)) (k0_pay16 (Q 1)) (k0_pay16 (Q 2)) (k0_pay16 (Q 3)) (ix2 R l)
      = Ideal.exp2 (rowA Q mp kp R l - rowM Q mp mn kp kc kn kx zz R) := by
  have ht := top_apply Q z mp mn kp kc kn kx R zz hz
  pointwise [k0_pay26, before_apply, ht]
  rfl

theorem exp_own (l : Fin 128) :
    k0_pay27 (F := Ideal) z mn kx mp kp kc kn (k0_pay16 (Q 0)) (k0_pay16 (Q 1)) (k0_pay16 (Q 2)) (k0_pay16 (Q 3)) (ix2 R l)
      = Ideal.exp2 (rowB Q kc R l - rowM Q mp mn kp kc kn kx zz R) := by
  have ht := top_apply Q z mp mn kp kc kn kx R zz hz
  pointwise [k0_pay27, own_apply, ht]
  rfl

theorem exp_after (l : Fin 128) :
    k0_pay28 (F := Ideal) z mn kx mp kp kc kn (k0_pay16 (Q 0)) (k0_pay16 (Q 1)) (k0_pay16 (Q 2)) (k0_pay16 (Q 3)) (ix2 R l)
      = Ideal.exp2 (rowA Q mn kn R l - rowM Q mp mn kp kc kn kx zz R) := by
  have ht := top_apply Q z mp mn kp kc kn kx R zz hz
  pointwise [k0_pay28, after_apply, ht]
  rfl

theorem exp_context (l : Fin 256) :
    k0_pay29 (F := Ideal) z mn kx mp kp kc kn (k0_pay16 (Q 0)) (k0_pay16 (Q 1)) (k0_pay16 (Q 2)) (k0_pay16 (Q 3)) (ix2 R l)
      = Ideal.exp2 (rowX Q kx R l - rowM Q mp mn kp kc kn kx zz R) := by
  have ht := top_apply Q z mp mn kp kc kn kx R zz hz
  pointwise [k0_pay29, context_apply, ht]
  rfl

theorem total_apply :
    k0_pay30 (F := Ideal) z mn kx mp kp kc kn (k0_pay16 (Q 0)) (k0_pay16 (Q 1)) (k0_pay16 (Q 2)) (k0_pay16 (Q 3)) (ix2 R 0)
      = rowTotal (rowA Q mp kp R) (rowB Q kc R) (rowA Q mn kn R) (rowX Q kx R) zz (rowM Q mp mn kp kc kn kx zz R) := by
  have ht := top_apply Q z mp mn kp kc kn kx R zz hz
  have h1 := exp_before Q z mp mn kp kc kn kx R zz hz
  have h2 := exp_own Q z mp mn kp kc kn kx R zz hz
  have h3 := exp_after Q z mp mn kp kc kn kx R zz hz
  have h4 := exp_context Q z mp mn kp kc kn kx R zz hz
  pointwise [k0_pay30, h1, h2, h3, h4, ht]
  unfold rowTotal
  refine Finset.sum_congr rfl fun l _ => ?_
  rw [lane_first, hz]
  exact congrArg₂ (fun a b : EReal => a + b) rfl (select_decide _ _ _)

theorem product_before (d : Fin 128) :
    k0_pay31 (F := Ideal) z mn kx mp kp kc kn vp (k0_pay16 (Q 0)) (k0_pay16 (Q 1)) (k0_pay16 (Q 2)) (k0_pay16 (Q 3)) (ix2 R d)
      = ∑ l, Ideal.exp2 (rowA Q mp kp R l - rowM Q mp mn kp kc kn kx zz R) * vp (ix2 l d) := by
  have h1 := exp_before Q z mp mn kp kc kn kx R zz hz
  pointwise [k0_pay31, h1]

theorem weights_own (l : Fin 128) :
    k0_pay32 (F := Ideal) z mn kx mp kp kc kn (k0_pay16 (Q 0)) (k0_pay16 (Q 1)) (k0_pay16 (Q 2)) (k0_pay16 (Q 3)) (ix2 R l)
      = Ideal.exp2 (rowB Q kc R l - rowM Q mp mn kp kc kn kx zz R) := by
  have h1 := exp_own Q z mp mn kp kc kn kx R zz hz
  pointwise [k0_pay32, h1]

omit hz

/-- Two heads of a pair put side by side again: each row's half of the lanes. -/
theorem merge_case (G : Fin 1024 → Fin 128 → EReal) (k : Nat) (r : Fin 128) (c : Fin 512) (c' : Fin 128) (R1 R2 : Fin 1024)
    (h1 : R1.val = k * 256 + r.val) (h2 : R2.val = k * 256 + 128 + r.val) (h : c.val = k * 128 + c'.val) :
    Scalar.select (IntOp.cmpi .slt (BitVec.ofNat 32 c'.val) 64#32) (G R1 c') (G R2 c')
      = G ⟨c.val / 64 * 128 + r.val, by omega⟩ ⟨c.val % 128, by omega⟩ := by
  rw [lane_low]
  refine (select_decide _ _ _).trans ?_
  have hc : (⟨c.val % 128, by omega⟩ : Fin 128) = c' := Fin.ext (by simp only; omega)
  rw [hc]
  by_cases hh : c'.val < 64
  · rw [if_pos hh]
    exact congrArg (fun R => G R c') (Fin.ext (by simp only; omega))
  · rw [if_neg hh]
    exact congrArg (fun R => G R c') (Fin.ext (by simp only; omega))

theorem stored_apply (vx : Vec Ideal S256x128 .bf16) (vc vn : Vec Ideal S128x128 .bf16) (wn : Vec Ideal S1024x128 .f32)
    (wx : Vec Ideal S1024x256 .f32) (t : Vec Ideal S1024x1 .f32) (pp : Vec Ideal S1024x128 .f32) (wc : Vec Ideal S1024x128 .bf16)
    (G : Fin 1024 → Fin 128 → EReal)
    (hG : ∀ R d, Ideal.div (pp (ix2 R d) + ∑ x, wc (ix2 R x) * vc (ix2 x d) + ∑ x, wn (ix2 R x) * vn (ix2 x d)
      + ∑ x, wx (ix2 R x) * vx (ix2 x d)) (t (ix2 R 0)) = G R d)
    (r : Fin 128) (c : Fin 512) :
    k0_pay33 (F := Ideal) vx vc vn wn wx t pp wc (constant S1024x128 .f32 0x00000000#32) (ix3 0 r c)
      = G ⟨c.val / 64 * 128 + r.val, by omega⟩ ⟨c.val % 128, by omega⟩ := by
  pointwise [k0_pay33]
  simp only [hG]
  have hr := r.isLt
  by_cases h0 : c.val < 128
  · rw [dif_pos h0]
    exact merge_case G 0 r c ⟨c.val, h0⟩ _ _ (by simp) (by simp) (by simp)
  rw [dif_neg h0]
  by_cases h1 : c.val - 128 < 128
  · rw [dif_pos h1]
    exact merge_case G 1 r c ⟨c.val - 128, h1⟩ _ _ (by simp) (by simp; omega) (by simp; omega)
  rw [dif_neg h1]
  by_cases h2 : c.val - 128 - 128 < 128
  · rw [dif_pos h2]
    exact merge_case G 2 r c ⟨c.val - 128 - 128, h2⟩ _ _ (by simp) (by simp; omega) (by simp; omega)
  rw [dif_neg h2]
  exact merge_case G 3 r c ⟨c.val - 128 - 128 - 128, by omega⟩ _ _ (by simp) (by simp; omega) (by simp; omega)

/-- ONE BLOCK OF THE CALL: what the body stores for 128 queries, from the sinks' tile, the two masks, the three blocks
    of keys and values, the context's, and the four pairs of heads' queries. -/
def chain (q0 q1 q2 q3 : Vec Ideal S1x128x128 .f32) : Vec Ideal S1x128x512 .bf16 :=
  k0_pay33 (F := Ideal) vx vc vn
    (k0_pay28 z mn kx mp kp kc kn (k0_pay16 q0) (k0_pay16 q1) (k0_pay16 q2) (k0_pay16 q3))
    (k0_pay29 z mn kx mp kp kc kn (k0_pay16 q0) (k0_pay16 q1) (k0_pay16 q2) (k0_pay16 q3))
    (k0_pay30 z mn kx mp kp kc kn (k0_pay16 q0) (k0_pay16 q1) (k0_pay16 q2) (k0_pay16 q3))
    (k0_pay31 z mn kx mp kp kc kn vp (k0_pay16 q0) (k0_pay16 q1) (k0_pay16 q2) (k0_pay16 q3))
    (k0_pay32 z mn kx mp kp kc kn (k0_pay16 q0) (k0_pay16 q1) (k0_pay16 q2) (k0_pay16 q3))
    (constant S1024x128 .f32 0x00000000#32)

/-- A block's row `r` at lane `c`: the softmax of the head at place `c / 64`. -/
theorem chain_apply (zz : Fin 1024 → EReal) (hz : ∀ R l, z (ix2 R l) = zz R) (r : Fin 128) (c : Fin 512) (R : Fin 1024)
    (hR : R.val = c.val / 64 * 128 + r.val) :
    chain z mp mn kp kc kn vp vc vn kx vx (Q 0) (Q 1) (Q 2) (Q 3) (ix3 0 r c)
      = rowOut (rowA Q mp kp R) (rowB Q kc R) (rowA Q mn kn R) (rowX Q kx R) (zz R) (fun l => vp (ix2 l ⟨c.val % 128, by omega⟩))
          (fun l => vc (ix2 l ⟨c.val % 128, by omega⟩)) (fun l => vn (ix2 l ⟨c.val % 128, by omega⟩))
          (fun l => vx (ix2 l ⟨c.val % 128, by omega⟩)) := by
  have hR' : R = ⟨c.val / 64 * 128 + r.val, by omega⟩ := Fin.ext hR
  rw [hR']
  refine stored_apply vx vc vn _ _ _ _ _ (fun R d => rowOut (rowA Q mp kp R) (rowB Q kc R) (rowA Q mn kn R) (rowX Q kx R) (zz R)
    (fun l => vp (ix2 l d)) (fun l => vc (ix2 l d)) (fun l => vn (ix2 l d)) (fun l => vx (ix2 l d))) (fun R d => ?_) r c
  have h := hz R
  rw [product_before Q z mp mn kp kc kn vp kx R _ h, total_apply Q z mp mn kp kc kn kx R _ h]
  simp only [weights_own Q z mp mn kp kc kn kx R _ h, exp_after Q z mp mn kp kc kn kx R _ h, exp_context Q z mp mn kp kc kn kx R _ h]
  rfl

/-! ## The sinks' tile and the masks -/

/-- Which head stands at place `p` of eight. -/
abbrev headAt (p : Nat) : Nat := p % 2 * 4 + p / 2

/-- The sinks' tile: stacked row `R` has its head's sink, to base 2. -/
theorem sink_apply (s : Fin 8 → EReal) (R : Fin 1024) (l : Fin 128) :
    k0_pay2 (F := Ideal) (s 0) (s 4) (s 1) (s 5) (s 2) (s 6) (s 3) (s 7) (ix2 R l)
      = s ⟨headAt (R.val / 128), by unfold headAt; omega⟩ * ((invLog2 : ℝ) : EReal) := by
  pointwise [k0_pay2]
  rw [named_log2e]
  have hR := R.isLt
  split_ifs <;> (refine congrArg (fun k => s k * ((invLog2 : ℝ) : EReal)) (Fin.ext ?_); simp [headAt]; omega)

/-- The mask of the block before: key `l` at most 128 places back. -/
theorem mask_before (r l : Fin 128) : k0_pay5 (F := Ideal) (ix2 r l) = if r.val ≤ l.val then (0 : EReal) else ⊥ := by
  pointwise [k0_pay5, k0_pay4, k0_pay3]
  rw [lane_ge, minus_infinity]
  exact select_decide _ _ _

/-- The mask of the block after. -/
theorem mask_after (r l : Fin 128) : k0_pay6 (F := Ideal) (ix2 r l) = if l.val ≤ r.val then (0 : EReal) else ⊥ := by
  pointwise [k0_pay6, k0_pay4, k0_pay3]
  rw [lane_le, minus_infinity]
  exact select_decide _ _ _

/-- A block that is not there is masked out. -/
theorem mask_none (r l : Fin 128) : k0_pay3 (F := Ideal) (ix2 r l) = (⊥ : EReal) := by
  pointwise [k0_pay3]
  exact minus_infinity

end Cert.Window

end
-- ==== Proof.WindowReference.lean ====
/-
  The reference `reference`, read at one token and feature: one query's attention as in Proof/WindowMath.lean.

  Token `l` is row `r = l % 128` of block `n = l / 128`; feature `c` is place `e = c % 64` of the head with key head
  `h = c / 64 % 2` and number `g = c / 128` among the four query heads that share it. The query sees the 384 keys of
  the blocks before, its own and after; the keys are padded by 128 zeros at either end.
-/
module

public import proofs.«01_k».proof.Proof.Gen.ReferenceIdeal.Read
public import Idealize.ShloMosaic.Lib.ValueIdxRank6
public import Idealize.ShloMosaic.Lib.Pointwise
public import proofs.«01_k».proof.Proof.WindowMath

@[expose] public section

set_option maxRecDepth 16384

noncomputable section

namespace Cert.Window

open Idealize.ShloMosaic

/-- Place `P` of 4096 numbers with 128 zeros before and after. -/
def padded (x : Fin 4096 → EReal) (P : Nat) : EReal :=
  if h : 128 ≤ P ∧ P - 128 < 4096 then x ⟨P - 128, h.2⟩ else 0

/-- The query of row `r` in block `n` sees key `j` of 384: at most 128 places away and not in the padding. -/
def inBand (n r j : Nat) : Prop := r ≤ j ∧ j ≤ r + 256 ∧ 128 ≤ n * 128 + j ∧ n * 128 + j < 4224

instance (n r j : Nat) : Decidable (inBand n r j) := inferInstanceAs (Decidable (_ ∧ _ ∧ _ ∧ _))

/-- The logit of key `j` of 384 for the query of row `r` in block `n`: minus infinity outside the band. -/
def bandLogit (q : Fin 64 → EReal) (k : Fin 4096 → Fin 64 → EReal) (n r j : Nat) : EReal :=
  if inBand n r j then logit q (fun e => padded (fun l => k l e) (n * 128 + j)) else ⊥

/-- ONE QUERY'S ATTENTION, at one feature: `q` the query, `k` and `kc` the keys of its head, `v` and `vc` the values'
    feature, `z` the head's sink. -/
def query (q : Fin 64 → EReal) (k : Fin 4096 → Fin 64 → EReal) (v : Fin 4096 → EReal) (kc : Fin 256 → Fin 64 → EReal)
    (vc : Fin 256 → EReal) (z : EReal) (n r : Nat) : EReal :=
  attend (fun j => bandLogit q k n r j.val) (fun j => logit q (kc j)) z (fun j => padded v (n * 128 + j.val)) vc

open Cert.ReferenceIdeal Cert.ReferenceIdeal.Gen Cert.ReferenceIdeal.Read

variable (x0 : Vec Ideal S4x4096x8x64 .f32) (x1 x2 : Vec Ideal S4x4096x2x64 .f32) (x3 x4 : Vec Ideal S4x256x2x64 .f32)
  (x5 : Vec Ideal S8 .f32)

theorem ref_query (b : Fin 4) (n : Fin 32) (r : Fin 128) (h : Fin 2) (g : Fin 4) (e : Fin 64) :
    val_main_v0 (F := Ideal) x0 (ix6 b n r h g e) = x0 (ix4 b ⟨n.val * 128 + r.val, by omega⟩ ⟨h.val * 4 + g.val, by omega⟩ e) := by
  pointwise [val_main_v0]

theorem sitofp_zero : (FloatOps.sitofp .f32 0#32 : Ideal .f32) = 0 := by
  show (((0#32 : BitVec 32).toInt : ℝ) : EReal) = 0
  simp

theorem padded_at (x : Fin 4096 → EReal) (P' P : Nat) (h : P' = P) :
    (if h : 128 ≤ P' ∧ P' - 128 < 4096 then x ⟨P' - 128, h.2⟩ else 0) = padded x P := by
  subst h
  rfl

theorem ref_keys (b : Fin 4) (n : Fin 32) (j : Fin 384) (h : Fin 2) (e : Fin 64) :
    val_main_v8 (F := Ideal) x1 (ix5 b n j h e) = padded (fun l => x1 (ix4 b l h e)) (n.val * 128 + j.val) := by
  pointwise [val_main_v8, val_main_v7, val_main_v6, val_main_v5, val_main_v2, val_main_v1, val_main_call0_v0, val_main_c]
  simp only [sitofp_zero]
  by_cases h1 : j.val < 128
  · simp only [h1, dite_true]
    exact padded_at (fun l => x1 (ix4 b l h e)) _ _ rfl
  · by_cases h2 : j.val - 128 < 128
    · simp only [h1, h2, dite_true, dite_false]
      exact padded_at (fun l => x1 (ix4 b l h e)) _ _ (by omega)
    · simp only [h1, h2, dite_false]
      exact padded_at (fun l => x1 (ix4 b l h e)) _ _ (by omega)

theorem ref_values (b : Fin 4) (n : Fin 32) (j : Fin 384) (h : Fin 2) (e : Fin 64) :
    val_main_v12 (F := Ideal) x2 (ix5 b n j h e) = padded (fun l => x2 (ix4 b l h e)) (n.val * 128 + j.val) := by
  pointwise [val_main_v12, val_main_v11, val_main_v10, val_main_v9, val_main_v4, val_main_v3, val_main_call1_v0, val_main_c_0]
  simp only [sitofp_zero]
  by_cases h1 : j.val < 128
  · simp only [h1, dite_true]
    exact padded_at (fun l => x2 (ix4 b l h e)) _ _ rfl
  · by_cases h2 : j.val - 128 < 128
    · simp only [h1, h2, dite_true, dite_false]
      exact padded_at (fun l => x2 (ix4 b l h e)) _ _ (by omega)
    · simp only [h1, h2, dite_false]
      exact padded_at (fun l => x2 (ix4 b l h e)) _ _ (by omega)

/-- The query of head `(h, g)` at row `r` of block `n`. -/
abbrev refQ (b : Fin 4) (n : Fin 32) (r : Fin 128) (h : Fin 2) (g : Fin 4) : Fin 64 → EReal :=
  fun e => x0 (ix4 b ⟨n.val * 128 + r.val, by omega⟩ ⟨h.val * 4 + g.val, by omega⟩ e)

theorem ref_local (b : Fin 4) (n : Fin 32) (h : Fin 2) (g : Fin 4) (r : Fin 128) (j : Fin 384) :
    val_main_v16 (F := Ideal) x0 x1 (ix6 b n h g r j)
      = logit (refQ x0 b n r h g) fun e => padded (fun l => x1 (ix4 b l h e)) (n.val * 128 + j.val) := by
  pointwise [val_main_v16, val_main_v15, val_main_cst, val_main_v14, val_main_v13, ref_keys, ref_query]
  rfl

theorem ref_context (b : Fin 4) (n : Fin 32) (h : Fin 2) (g : Fin 4) (r : Fin 128) (j : Fin 256) :
    val_main_v20 (F := Ideal) x0 x3 (ix6 b n h g r j) = logit (refQ x0 b n r h g) fun e => x3 (ix4 b j h e) := by
  pointwise [val_main_v20, val_main_v19, val_main_cst_1, val_main_v18, val_main_v17, ref_query]
  rfl

/-- The distance test, at row `r` and key `j`. -/
theorem near_bit (r : Fin 128) (j : Fin 384) :
    IntOp.cmpi .sle (IntOp.absi (IntOp.subi (IntOp.subi (BitVec.ofNat 32 j.val) 128#32) (BitVec.ofNat 32 r.val))) 128#32
      = BitVec.ofBool (decide (r.val ≤ j.val ∧ j.val ≤ r.val + 256)) := by
  have hj := j.isLt
  have hr := r.isLt
  have hx : (IntOp.subi (IntOp.subi (BitVec.ofNat 32 j.val) 128#32) (BitVec.ofNat 32 r.val)).toInt = (j.val : Int) - 128 - r.val := by
    simp only [IntOp.subi, BitVec.toInt_sub, toInt_small j.val (by omega), toInt_small r.val (by omega),
      show (128#32).toInt = 128 from rfl, Int.bmod_def]
    omega
  generalize IntOp.subi (IntOp.subi (BitVec.ofNat 32 j.val) 128#32) (BitVec.ofNat 32 r.val) = x at hx
  have ha : (IntOp.absi x).toInt = if x.toInt < 0 then - x.toInt else x.toInt := by
    unfold IntOp.absi
    rw [BitVec.msb_eq_toInt]
    by_cases h : x.toInt < 0
    · simp only [h, decide_true, if_true, BitVec.toInt_neg, Int.bmod_def]
      omega
    · simp only [h, decide_false, if_false, Bool.false_eq_true]
  simp only [IntOp.cmpi, BitVec.sle, ha, hx]
  refine congrArg _ (decide_eq_decide.mpr ?_)
  rw [show (128#32).toInt = 128 from rfl]
  split_ifs <;> omega

/-- The padding tests, at block `n` and key `j`. -/
theorem inside_bit (n : Fin 32) (j : Fin 384) :
    IntOp.cmpi .sge (IntOp.addi (IntOp.muli (BitVec.ofNat 32 n.val) 128#32) (IntOp.subi (BitVec.ofNat 32 j.val) 128#32)) 0#32
        = BitVec.ofBool (decide (128 ≤ n.val * 128 + j.val))
      ∧ IntOp.cmpi .slt (IntOp.addi (IntOp.muli (BitVec.ofNat 32 n.val) 128#32) (IntOp.subi (BitVec.ofNat 32 j.val) 128#32)) 4096#32
        = BitVec.ofBool (decide (n.val * 128 + j.val < 4224)) := by
  have hj := j.isLt
  have hn := n.isLt
  have hx : (IntOp.addi (IntOp.muli (BitVec.ofNat 32 n.val) 128#32) (IntOp.subi (BitVec.ofNat 32 j.val) 128#32)).toInt
      = (n.val : Int) * 128 + j.val - 128 := by
    simp only [IntOp.subi, IntOp.addi, IntOp.muli, BitVec.toInt_add, BitVec.toInt_mul, BitVec.toInt_sub,
      toInt_small j.val (by omega), toInt_small n.val (by omega), show (128#32).toInt = 128 from rfl, Int.bmod_def]
    omega
  simp only [IntOp.cmpi, BitVec.sle, BitVec.slt, hx]
  refine ⟨congrArg _ (decide_eq_decide.mpr ?_), congrArg _ (decide_eq_decide.mpr ?_)⟩
  · rw [show (0#32).toInt = 0 from rfl]
    omega
  · rw [show (4096#32).toInt = 4096 from rfl]
    omega

/-- Three tests joined. -/
theorem and_bits (A B C : Prop) [Decidable A] [Decidable B] [Decidable C] :
    IntOp.andi (IntOp.andi (BitVec.ofBool (decide A)) (BitVec.ofBool (decide B))) (BitVec.ofBool (decide C))
      = BitVec.ofBool (decide (A ∧ B ∧ C)) := by
  by_cases A <;> by_cases B <;> by_cases C <;> simp [*] <;> rfl

theorem ref_valid (n : Fin 32) (r : Fin 128) (j : Fin 384) :
    val_main_v51 (F := Ideal) (ix6 0 n 0 0 r j) = BitVec.ofBool (decide (inBand n.val r.val j.val)) := by
  pointwise [val_main_v51, val_main_v50, val_main_v49, val_main_v48, val_main_v47, val_main_v46, val_main_v45, val_main_v44,
    val_main_v43, val_main_v42, val_main_v41, val_main_v40, val_main_v39, val_main_v38, val_main_v37, val_main_v36,
    val_main_v35, val_main_v34, val_main_v33, val_main_v32, val_main_v31, val_main_v30, val_main_v29, val_main_v28,
    val_main_v27, val_main_v26, val_main_v25, val_main_v24, val_main_v23, val_main_v22, val_main_v21,
    val_main_c_2, val_main_c_3, val_main_c_4, val_main_c_5, val_main_c_6]
  have h := inside_bit n j
  rw [near_bit r j, h.1, h.2]
  refine (and_bits _ _ _).trans (congrArg BitVec.ofBool (decide_eq_decide.mpr ?_))
  unfold inBand
  exact ⟨fun h => ⟨h.1.1, h.1.2, h.2.1, h.2.2⟩, fun h => ⟨⟨h.1, h.2.1⟩, h.2.2.1, h.2.2.2⟩⟩

theorem ref_band (b : Fin 4) (n : Fin 32) (h : Fin 2) (g : Fin 4) (r : Fin 128) (j : Fin 384) :
    val_main_v52 (F := Ideal) x0 x1 (ix6 b n h g r j)
      = bandLogit (refQ x0 b n r h g) (fun l e => x1 (ix4 b l h e)) n.val r.val j.val := by
  pointwise [val_main_v52, val_main_call2_v0, val_main_call2_v1, val_main_call2_v2, val_main_cst_7, ref_valid, ref_local]
  unfold bandLogit
  by_cases hb : inBand n.val r.val j.val
  · simp only [hb, decide_true, if_true]
  · simp only [hb, decide_false, if_false]
    exact minus_infinity

theorem ref_sink (b : Fin 4) (n : Fin 32) (h : Fin 2) (g : Fin 4) (r : Fin 128) :
    val_main_v55 (F := Ideal) x5 (ix6 b n h g r 0) = x5 (ix1 ⟨h.val * 4 + g.val, by omega⟩) := by
  pointwise [val_main_v55, val_main_v54, val_main_v53]

/-- The 641 logits of one query. -/
abbrev refRow (b : Fin 4) (n : Fin 32) (h : Fin 2) (g : Fin 4) (r : Fin 128) : Fin 641 → EReal :=
  joined (fun j => bandLogit (refQ x0 b n r h g) (fun l e => x1 (ix4 b l h e)) n.val r.val j.val)
    (fun j => logit (refQ x0 b n r h g) fun e => x3 (ix4 b j h e)) (x5 (ix1 ⟨h.val * 4 + g.val, by omega⟩))

theorem ref_row (b : Fin 4) (n : Fin 32) (h : Fin 2) (g : Fin 4) (r : Fin 128) (j : Fin 641) :
    val_main_v56 (F := Ideal) x0 x1 x3 x5 (ix6 b n h g r j) = refRow x0 x1 x3 x5 b n h g r j := by
  pointwise [val_main_v56, ref_band, ref_context]
  unfold refRow joined
  by_cases h1 : j.val < 384
  · simp only [h1, dite_true]
  · by_cases h2 : j.val - 384 < 256
    · simp only [h1, h2, dite_true, dite_false]
    · simp only [h1, h2, dite_false]
      refine Eq.trans (congrArg (fun u => val_main_v55 (F := Ideal) x5 (ix6 b n h g r u)) (Fin.ext ?_)) (ref_sink x5 b n h g r)
      simp only [Fin.val_zero]
      omega

/-- The largest of 641, over the last axis. -/
theorem reduce_max (y : S4x32x2x4x128x641.Idx → EReal) (z : S_.Idx → EReal) (hz : z (Shape.Idx.first h_S_) = ⊥)
    (b : Fin 4) (n : Fin 32) (h : Fin 2) (g : Fin 4) (r : Fin 128) :
    Host.reduce (fun u v : EReal => max u v) y z reducesTo_S4x32x2x4x128x641_S4x32x2x4x128_d5 h_S_ (ix5 b n h g r)
      = Finset.univ.sup fun j : Fin 641 => y (ix6 b n h g r j) := by
  rw [Host.reduce_eq_fold_single (fun u v : EReal => max u v) y z reducesTo_S4x32x2x4x128x641_S4x32x2x4x128_d5 (by decide) h_S_, hz]
  refine (congrArg (fun f => Finset.univ.fold max (⊥ : EReal) f) (funext fun j => congrArg y (funext fun a => Fin.ext ?_))).trans rfl
  match a with
  | ⟨0, _⟩ => rfl
  | ⟨1, _⟩ => rfl
  | ⟨2, _⟩ => rfl
  | ⟨3, _⟩ => rfl
  | ⟨4, _⟩ => rfl
  | ⟨5, _⟩ => rfl

theorem ref_top (b : Fin 4) (n : Fin 32) (h : Fin 2) (g : Fin 4) (r : Fin 128) :
    val_main_v59 (F := Ideal) x0 x1 x3 x5 (ix5 b n h g r) = Finset.univ.sup (refRow x0 x1 x3 x5 b n h g r) := by
  rw [val_main_v59_apply, val_main_v58_apply, val_main_cst_9_apply]
  refine (congrArg₂ max minus_infinity (reduce_max (val_main_v56 (F := Ideal) x0 x1 x3 x5) _ minus_infinity b n h g r)).trans ?_
  rw [max_eq_right bot_le]
  exact congrArg _ (funext fun j => ref_row x0 x1 x3 x5 b n h g r j)

theorem ref_exp (b : Fin 4) (n : Fin 32) (h : Fin 2) (g : Fin 4) (r : Fin 128) (j : Fin 641) :
    val_main_v63 (F := Ideal) x0 x1 x3 x5 (ix6 b n h g r j)
      = Ideal.exp (refRow x0 x1 x3 x5 b n h g r j - Finset.univ.sup (refRow x0 x1 x3 x5 b n h g r)) := by
  pointwise [val_main_v63, val_main_v62, val_main_v61, val_main_v60, ref_top, ref_row]

theorem ref_total (b : Fin 4) (n : Fin 32) (h : Fin 2) (g : Fin 4) (r : Fin 128) :
    val_main_v64 (F := Ideal) x0 x1 x3 x5 (ix5 b n h g r)
      = ∑ j, Ideal.exp (refRow x0 x1 x3 x5 b n h g r j - Finset.univ.sup (refRow x0 x1 x3 x5 b n h g r)) := by
  rw [val_main_v64_apply]
  refine (congrArg₂ (· + ·) (Ideal.ofBits_zero_f32) (Finset.sum_congr rfl fun j _ => ?_)).trans (zero_add _)
  refine Eq.trans (congrArg (val_main_v63 (F := Ideal) x0 x1 x3 x5) (funext fun a => Fin.ext ?_)) (ref_exp x0 x1 x3 x5 b n h g r j)
  match a with
  | ⟨0, _⟩ => rfl
  | ⟨1, _⟩ => rfl
  | ⟨2, _⟩ => rfl
  | ⟨3, _⟩ => rfl
  | ⟨4, _⟩ => rfl
  | ⟨5, _⟩ => rfl

theorem ref_weight (b : Fin 4) (n : Fin 32) (h : Fin 2) (g : Fin 4) (r : Fin 128) (j : Fin 641) :
    val_main_v67 (F := Ideal) x0 x1 x3 x5 (ix6 b n h g r j)
      = Ideal.div (Ideal.exp (refRow x0 x1 x3 x5 b n h g r j - Finset.univ.sup (refRow x0 x1 x3 x5 b n h g r)))
          (∑ j, Ideal.exp (refRow x0 x1 x3 x5 b n h g r j - Finset.univ.sup (refRow x0 x1 x3 x5 b n h g r))) := by
  pointwise [val_main_v67, val_main_v66, val_main_v65, ref_total, ref_exp]

theorem ref_attend (b : Fin 4) (l : Fin 4096) (h : Fin 2) (g : Fin 4) (e : Fin 64) :
    val_main_v75 (F := Ideal) x0 x1 x2 x3 x4 x5 (ix5 b l h g e)
      = query (fun e => x0 (ix4 b l ⟨h.val * 4 + g.val, by omega⟩ e)) (fun l e => x1 (ix4 b l h e)) (fun l => x2 (ix4 b l h e))
          (fun j e => x3 (ix4 b j h e)) (fun j => x4 (ix4 b j h e)) (x5 (ix1 ⟨h.val * 4 + g.val, by omega⟩))
          (l.val / 128) (l.val % 128) := by
  have hl : (⟨l.val / 128 * 128 + l.val % 128, by omega⟩ : Fin 4096) = l := Fin.ext (by simp only; omega)
  pointwise [val_main_v75, val_main_v74, val_main_v73, val_main_v72, val_main_v71, val_main_v70, val_main_v69, val_main_v68,
    ref_values, ref_weight]
  simp only [refRow, sup_joined, joined_local, joined_context]
  have ht (s x z) : ∑ j, Ideal.exp (joined s x z j - top s x z) = total s x z := sum_joined s x z
  have hq : refQ x0 b ⟨l.val / 128, by omega⟩ ⟨l.val % 128, by omega⟩ h g
      = fun e => x0 (ix4 b l ⟨h.val * 4 + g.val, by omega⟩ e) :=
    funext fun e => congrArg (fun l => x0 (ix4 b l ⟨h.val * 4 + g.val, by omega⟩ e)) hl
  simp only [ht, hq]
  rfl

/-- THE REFERENCE'S RESULT at token `l` of batch `b`, feature `c`. -/
theorem ref_result (b : Fin 4) (l : Fin 4096) (c : Fin 512) :
    val_main_v78 (F := Ideal) x0 x1 x2 x3 x4 x5 (ix3 b l c)
      = query (fun e => x0 (ix4 b l ⟨c.val / 64 % 2 * 4 + c.val / 128, by omega⟩ e))
          (fun l e => x1 (ix4 b l ⟨c.val / 64 % 2, by omega⟩ e)) (fun l => x2 (ix4 b l ⟨c.val / 64 % 2, by omega⟩ ⟨c.val % 64, by omega⟩))
          (fun j e => x3 (ix4 b j ⟨c.val / 64 % 2, by omega⟩ e)) (fun j => x4 (ix4 b j ⟨c.val / 64 % 2, by omega⟩ ⟨c.val % 64, by omega⟩))
          (x5 (ix1 ⟨c.val / 64 % 2 * 4 + c.val / 128, by omega⟩)) (l.val / 128) (l.val % 128) := by
  pointwise [val_main_v78, val_main_v77, val_main_v76, ref_attend]

end Cert.Window

end
-- ==== Proof.WindowBlock.lean ====
/-
  One block of the call against the reference: the body's row (Proof/WindowBody.lean) is the query's attention
  (Proof/WindowReference.lean), when queries, keys and sinks are finite.
-/
module

public import proofs.«01_k».proof.Proof.WindowBody
public import proofs.«01_k».proof.Proof.WindowReference

@[expose] public section

set_option maxRecDepth 16384

noncomputable section

namespace Cert.Window

open Idealize.ShloMosaic
open Cert.KernelIdeal Cert.KernelIdeal.Gen

/-- A masked logit of the call is the reference's to base 2: in the band the key is the reference's, outside it the mask
    is minus infinity. -/
theorem masked_logit (q : Fin 64 → EReal) (k : Fin 4096 → Fin 64 → EReal) (n r j : Nat) (key : Fin 64 → EReal) (μ : EReal)
    (hq : ∀ e, ∃ x : ℝ, q e = x) (hk : ∀ l e, ∃ x : ℝ, k l e = x)
    (hμ : μ = if inBand n r j then 0 else ⊥)
    (hkey : inBand n r j → ∀ e, key e = padded (fun l => k l e) (n * 128 + j)) :
    ∑ e, q e * qScale * key e + μ = bandLogit q k n r j * ((invLog2 : ℝ) : EReal) := by
  unfold bandLogit
  by_cases hb : inBand n r j
  · rw [hμ, if_pos hb, if_pos hb, add_zero]
    have hkey' := funext (hkey hb)
    rw [← hkey']
    refine scaled_logit q key hq fun e => ?_
    rw [hkey hb e]
    have h2 := hb.2.2
    unfold padded
    rw [dif_pos ⟨h2.1, by omega⟩]
    exact hk _ e
  · rw [hμ, if_neg hb, if_neg hb, EReal.add_bot, EReal.bot_mul_coe_of_pos invLog2_pos]

/-- A reference's local logit is minus infinity or a number. -/
theorem bandLogit_or (q : Fin 64 → EReal) (k : Fin 4096 → Fin 64 → EReal) (n r j : Nat)
    (hq : ∀ e, ∃ x : ℝ, q e = x) (hk : ∀ l e, ∃ x : ℝ, k l e = x) :
    bandLogit q k n r j = ⊥ ∨ ∃ x : ℝ, bandLogit q k n r j = x := by
  unfold bandLogit
  by_cases hb : inBand n r j
  · rw [if_pos hb]
    refine .inr (logit_real q _ hq fun e => ?_)
    have h2 := hb.2.2
    unfold padded
    rw [dif_pos ⟨h2.1, by omega⟩]
    exact hk _ e
  · exact .inl (if_neg hb)

/-- ONE ROW: the call's row of logits and values gives the query's attention. -/
theorem row_eq (q : Fin 64 → EReal) (k : Fin 4096 → Fin 64 → EReal) (v : Fin 4096 → EReal) (kctx : Fin 256 → Fin 64 → EReal)
    (vctx : Fin 256 → EReal) (z : EReal) (n : Fin 32) (r : Fin 128)
    (hq : ∀ e, ∃ x : ℝ, q e = x) (hk : ∀ l e, ∃ x : ℝ, k l e = x) (hkc : ∀ l e, ∃ x : ℝ, kctx l e = x) (hz : ∃ x : ℝ, z = x)
    (kp kc kn : Fin 128 → Fin 64 → EReal) (vp vc vn : Fin 128 → EReal) (μp μn : Fin 128 → EReal)
    (hμp : ∀ l : Fin 128, μp l = if r.val ≤ l.val ∧ 0 < n.val then 0 else ⊥)
    (hμn : ∀ l : Fin 128, μn l = if l.val ≤ r.val ∧ n.val < 31 then 0 else ⊥)
    (hkp : ∀ (h : 0 < n.val) (l : Fin 128) (e : Fin 64), kp l e = k ⟨(n.val - 1) * 128 + l.val, by omega⟩ e)
    (hkc' : ∀ (l : Fin 128) (e : Fin 64), kc l e = k ⟨n.val * 128 + l.val, by omega⟩ e)
    (hkn : ∀ (h : n.val < 31) (l : Fin 128) (e : Fin 64), kn l e = k ⟨(n.val + 1) * 128 + l.val, by omega⟩ e)
    (hvp : ∀ (h : 0 < n.val) (l : Fin 128), vp l = v ⟨(n.val - 1) * 128 + l.val, by omega⟩)
    (hvc : ∀ (l : Fin 128), vc l = v ⟨n.val * 128 + l.val, by omega⟩)
    (hvn : ∀ (h : n.val < 31) (l : Fin 128), vn l = v ⟨(n.val + 1) * 128 + l.val, by omega⟩) :
    rowOut (fun l => ∑ e, q e * qScale * kp l e + μp l) (fun l => ∑ e, q e * qScale * kc l e)
        (fun l => ∑ e, q e * qScale * kn l e + μn l) (fun l => ∑ e, q e * qScale * kctx l e) (z * ((invLog2 : ℝ) : EReal)) vp vc vn vctx
      = query q k v kctx vctx z n.val r.val := by
  have hr := r.isLt
  have hn := n.isLt
  have inp (l : Fin 128) : inBand n.val r.val l.val ↔ r.val ≤ l.val ∧ 0 < n.val := by
    have := l.isLt
    unfold inBand
    omega
  have inc (l : Fin 128) : inBand n.val r.val (128 + l.val) := by
    have := l.isLt
    unfold inBand
    omega
  have inn (l : Fin 128) : inBand n.val r.val (256 + l.val) ↔ l.val ≤ r.val ∧ n.val < 31 := by
    have := l.isLt
    unfold inBand
    omega
  have pad (x : Fin 4096 → EReal) (P : Nat) (i : Fin 4096) (h : P = i.val + 128) : padded x P = x i := by
    subst h
    have := i.isLt
    unfold padded
    rw [dif_pos ⟨by omega, by omega⟩]
    exact congrArg x (Fin.ext (by simp))
  have notBand (l : Nat) (h : ¬ inBand n.val r.val l) : bandLogit q k n.val r.val l = ⊥ := if_neg h
  unfold query
  refine rowOut_eq _ _ _ _ _ _ _ _ _ _ _ _ _ (fun j => bandLogit_or q k n.val r.val j.val hq hk)
    (fun j => logit_real q _ hq (hkc j)) hz (fun l => ?_) (fun l => ?_) (fun l => ?_) (fun j => scaled_logit q (kctx j) hq (hkc j))
    rfl (fun l => ?_) (fun l => ?_) (fun l => ?_)
  · refine masked_logit q k n.val r.val l.val (kp l) (μp l) hq hk ((hμp l).trans (if_congr (inp l).symm rfl rfl)) fun hb e => ?_
    have h0 := ((inp l).mp hb).2
    rw [hkp h0]
    exact (pad (fun l => k l e) _ ⟨(n.val - 1) * 128 + l.val, by omega⟩ (by simp only; omega)).symm
  · refine (add_zero _).symm.trans (masked_logit q k n.val r.val (128 + l.val) (kc l) 0 hq hk (if_pos (inc l)).symm fun hb e => ?_)
    rw [hkc']
    exact (pad (fun l => k l e) _ ⟨n.val * 128 + l.val, by omega⟩ (by simp only; omega)).symm
  · refine masked_logit q k n.val r.val (256 + l.val) (kn l) (μn l) hq hk ((hμn l).trans (if_congr (inn l).symm rfl rfl)) fun hb e => ?_
    have h0 := ((inn l).mp hb).2
    rw [hkn h0]
    exact (pad (fun l => k l e) _ ⟨(n.val + 1) * 128 + l.val, by omega⟩ (by simp only; omega)).symm
  · by_cases hb : inBand n.val r.val l.val
    · have h0 := ((inp l).mp hb).2
      exact .inr ((hvp h0 l).trans (pad _ _ _ (by simp only; omega)).symm)
    · exact .inl (notBand _ hb)
  · exact .inr ((hvc l).trans (pad _ _ _ (by simp only; omega)).symm)
  · by_cases hb : inBand n.val r.val (256 + l.val)
    · have h0 := ((inn l).mp hb).2
      exact .inr ((hvn h0 l).trans (pad _ _ _ (by simp only; omega)).symm)
    · exact .inl (notBand _ hb)

set_option maxHeartbeats 1600000 in
/-- ONE BLOCK OF THE CALL IS THE REFERENCE'S: block `n` of batch `b`, row `r`, lane `c`, when what the body reads are the
    arrays' blocks (those before the first and after the last are masked out, so nothing is said of them). -/
theorem block_eq (x0 : Vec Ideal S4x4096x8x64 .f32) (x1 x2 : Vec Ideal S4x4096x2x64 .f32) (x3 x4 : Vec Ideal S4x256x2x64 .f32)
    (x5 : Vec Ideal S8 .f32)
    (hq : ∀ i, ∃ x : ℝ, x0 i = (x : EReal)) (hk : ∀ i, ∃ x : ℝ, x1 i = (x : EReal)) (hkc : ∀ i, ∃ x : ℝ, x3 i = (x : EReal))
    (hs : ∀ i, ∃ x : ℝ, x5 i = (x : EReal)) (b : Fin 4) (n : Fin 32)
    (Q : Fin 4 → Vec Ideal S1x128x128 .f32) (z : Vec Ideal S1024x128 .f32) (mp mn : Vec Ideal S128x128 .f32)
    (kp kc kn vp vc vn : Vec Ideal S128x128 .bf16) (kx vx : Vec Ideal S256x128 .bf16)
    (hQ : ∀ (j : Fin 4) (r l : Fin 128), Q j (ix3 0 r l)
      = x0 (ix4 b ⟨n.val * 128 + r.val, by omega⟩ ⟨headAt (j.val * 2 + l.val / 64), by unfold headAt; omega⟩ ⟨l.val % 64, by omega⟩))
    (hz : ∀ (R : Fin 1024) (l : Fin 128), z (ix2 R l) = x5 (ix1 ⟨headAt (R.val / 128), by unfold headAt; omega⟩) * ((invLog2 : ℝ) : EReal))
    (hmp : ∀ r l : Fin 128, mp (ix2 r l) = if r.val ≤ l.val ∧ 0 < n.val then (0 : EReal) else ⊥)
    (hmn : ∀ r l : Fin 128, mn (ix2 r l) = if l.val ≤ r.val ∧ n.val < 31 then (0 : EReal) else ⊥)
    (hkp : ∀ (h : 0 < n.val) (l x : Fin 128), kp (ix2 l x) = x1 (ix4 b ⟨(n.val - 1) * 128 + l.val, by omega⟩ ⟨x.val / 64, by omega⟩ ⟨x.val % 64, by omega⟩))
    (hkc' : ∀ (l x : Fin 128), kc (ix2 l x) = x1 (ix4 b ⟨n.val * 128 + l.val, by omega⟩ ⟨x.val / 64, by omega⟩ ⟨x.val % 64, by omega⟩))
    (hkn : ∀ (h : n.val < 31) (l x : Fin 128), kn (ix2 l x) = x1 (ix4 b ⟨(n.val + 1) * 128 + l.val, by omega⟩ ⟨x.val / 64, by omega⟩ ⟨x.val % 64, by omega⟩))
    (hvp : ∀ (h : 0 < n.val) (l x : Fin 128), vp (ix2 l x) = x2 (ix4 b ⟨(n.val - 1) * 128 + l.val, by omega⟩ ⟨x.val / 64, by omega⟩ ⟨x.val % 64, by omega⟩))
    (hvc : ∀ (l x : Fin 128), vc (ix2 l x) = x2 (ix4 b ⟨n.val * 128 + l.val, by omega⟩ ⟨x.val / 64, by omega⟩ ⟨x.val % 64, by omega⟩))
    (hvn : ∀ (h : n.val < 31) (l x : Fin 128), vn (ix2 l x) = x2 (ix4 b ⟨(n.val + 1) * 128 + l.val, by omega⟩ ⟨x.val / 64, by omega⟩ ⟨x.val % 64, by omega⟩))
    (hkx : ∀ (l : Fin 256) (x : Fin 128), kx (ix2 l x) = x3 (ix4 b l ⟨x.val / 64, by omega⟩ ⟨x.val % 64, by omega⟩))
    (hvx : ∀ (l : Fin 256) (x : Fin 128), vx (ix2 l x) = x4 (ix4 b l ⟨x.val / 64, by omega⟩ ⟨x.val % 64, by omega⟩))
    (r : Fin 128) (c : Fin 512) (l : Fin 4096) (hl : l.val = n.val * 128 + r.val) :
    chain z mp mn kp kc kn vp vc vn kx vx (Q 0) (Q 1) (Q 2) (Q 3) (ix3 0 r c)
      = Cert.ReferenceIdeal.Read.val_main_v78 (F := Ideal) x0 x1 x2 x3 x4 x5 (ix3 b l c) := by
  have hr := r.isLt
  have hc := c.isLt
  have hn := n.isLt
  obtain ⟨R, hR⟩ : ∃ R : Fin 1024, R.val = c.val / 64 * 128 + r.val := ⟨⟨c.val / 64 * 128 + r.val, by omega⟩, rfl⟩
  refine (chain_apply Q z mp mn kp kc kn vp vc vn kx vx _ hz r c R hR).trans (Eq.trans ?_ (ref_result x0 x1 x2 x3 x4 x5 b l c).symm)
  have e1 : l.val / 128 = n.val := by omega
  have e2 : l.val % 128 = r.val := by omega
  have lane (e : Fin 64) : (⟨(R.val / 128 % 2 * 64 + e.val) / 64, by omega⟩ : Fin 2) = ⟨c.val / 64 % 2, by omega⟩ := Fin.ext (by simp only; omega)
  have place (e : Fin 64) : (⟨(R.val / 128 % 2 * 64 + e.val) % 64, by omega⟩ : Fin 64) = e := Fin.ext (by simp only; omega)
  have laneV : (⟨c.val % 128 / 64, by omega⟩ : Fin 2) = ⟨c.val / 64 % 2, by omega⟩ := Fin.ext (by simp only; omega)
  have placeV : (⟨c.val % 128 % 64, by omega⟩ : Fin 64) = ⟨c.val % 64, by omega⟩ := Fin.ext (by simp only; omega)
  have head : (⟨headAt (R.val / 128), by unfold headAt; omega⟩ : Fin 8) = ⟨c.val / 64 % 2 * 4 + c.val / 128, by omega⟩ :=
    Fin.ext (by simp only [headAt]; omega)
  have hrow : rowQ Q R = fun e => x0 (ix4 b l ⟨c.val / 64 % 2 * 4 + c.val / 128, by omega⟩ e) := by
    funext e
    unfold rowQ
    rw [hQ]
    have a1 : (⟨n.val * 128 + R.val % 128, by omega⟩ : Fin 4096) = l := Fin.ext (by simp only; omega)
    have a2 : (⟨headAt (R.val / 256 * 2 + (R.val / 128 % 2 * 64 + e.val) / 64), by unfold headAt; omega⟩ : Fin 8)
        = ⟨c.val / 64 % 2 * 4 + c.val / 128, by omega⟩ := Fin.ext (by simp only [headAt]; omega)
    simp only [a1, a2, place]
  have hRr : (⟨R.val % 128, by omega⟩ : Fin 128) = r := Fin.ext (by simp only; omega)
  rw [e1, e2]
  refine Eq.trans ?_ (row_eq (fun e => x0 (ix4 b l ⟨c.val / 64 % 2 * 4 + c.val / 128, by omega⟩ e))
    (fun l e => x1 (ix4 b l ⟨c.val / 64 % 2, by omega⟩ e)) (fun l => x2 (ix4 b l ⟨c.val / 64 % 2, by omega⟩ ⟨c.val % 64, by omega⟩))
    (fun j e => x3 (ix4 b j ⟨c.val / 64 % 2, by omega⟩ e)) (fun j => x4 (ix4 b j ⟨c.val / 64 % 2, by omega⟩ ⟨c.val % 64, by omega⟩))
    (x5 (ix1 ⟨c.val / 64 % 2 * 4 + c.val / 128, by omega⟩)) n r (fun e => hq _) (fun l e => hk _) (fun l e => hkc _) (hs _)
    (fun l e => kp (ix2 l ⟨R.val / 128 % 2 * 64 + e.val, by omega⟩)) (fun l e => kc (ix2 l ⟨R.val / 128 % 2 * 64 + e.val, by omega⟩))
    (fun l e => kn (ix2 l ⟨R.val / 128 % 2 * 64 + e.val, by omega⟩)) (fun l => vp (ix2 l ⟨c.val % 128, by omega⟩))
    (fun l => vc (ix2 l ⟨c.val % 128, by omega⟩)) (fun l => vn (ix2 l ⟨c.val % 128, by omega⟩))
    (fun l => mp (ix2 r l)) (fun l => mn (ix2 r l)) (hmp r) (hmn r) ?_ ?_ ?_ ?_ ?_ ?_)
  · have hX : rowX Q kx R = fun j => ∑ e, x0 (ix4 b l ⟨c.val / 64 % 2 * 4 + c.val / 128, by omega⟩ e) * qScale
        * x3 (ix4 b j ⟨c.val / 64 % 2, by omega⟩ e) := by
      funext j
      simp only [rowX, rowScore, hrow, hkx, lane, place]
    have hV : (fun j => vx (ix2 j ⟨c.val % 128, by omega⟩)) = fun j => x4 (ix4 b j ⟨c.val / 64 % 2, by omega⟩ ⟨c.val % 64, by omega⟩) := by
      funext j
      rw [hvx, laneV, placeV]
    rw [hX, hV, head]
    unfold rowA rowB rowScore
    rw [hrow, hRr]
  · intro h l e
    rw [hkp h, lane, place]
  · intro l e
    rw [hkc', lane, place]
  · intro h l e
    rw [hkn h, lane, place]
  · intro h l
    rw [hvp h, laneV, placeV]
  · intro l
    rw [hvc, laneV, placeV]
  · intro h l
    rw [hvn h, laneV, placeV]

end Cert.Window

end
-- ==== Proof.WindowRows.lean ====
/-
  What the input blocks of the call `window_attn` show of its arguments, and what one sub-block of 128 tokens computes
  from them (Proof/WindowBlock.lean).
-/
module

public import proofs.«01_k».proof.Proof.Gen.KernelIdeal.Value
public import proofs.«01_k».proof.Proof.WindowBlock
public import Idealize.ShloMosaic.Lib.Pipeline.ValueKit
public import Idealize.ShloMosaic.Lib.ValueIdxRank6
public import Idealize.ShloMosaic.Lib.Claim

@[expose] public section

set_option maxRecDepth 16384

noncomputable section

namespace Cert.Window

open Idealize.ShloMosaic Idealize.ShloMosaic.TcCoe Idealize.SL.Sem
open Idealize.ShloMosaic.Pipeline (Dat)
open Cert.KernelIdeal Cert.KernelIdeal.Gen

/-- An index of an array with a leading axis of extent 1. -/
theorem eq_unit {n k : Nat} (x : (⟨3, ![1, n, k]⟩ : Shape).Idx) : x = ix3 0 (x 1) (x 2) :=
  (eq_ix3 x).trans (congrArg (fun a : Fin 1 => ix3 a (x 1) (x 2)) (Subsingleton.elim _ _))

/-- Which block each window shows at a step of the pipeline. -/
theorem idx : ∀ t : Fin cfg0.N, win0_0.index t = ![0] ∧ win0_1.index t = ![t.val / 4, t.val % 4, 0]
    ∧ win0_2.index t = ![t.val / 4, t.val % 4 * 8 - 1, 0] ∧ win0_3.index t = ![t.val / 4, t.val % 4, 0]
    ∧ win0_4.index t = ![t.val / 4, min (t.val % 4 * 8 + 8) 31, 0] ∧ win0_5.index t = ![t.val / 4, t.val % 4 * 8 - 1, 0]
    ∧ win0_6.index t = ![t.val / 4, t.val % 4, 0] ∧ win0_7.index t = ![t.val / 4, min (t.val % 4 * 8 + 8) 31, 0]
    ∧ win0_8.index t = ![t.val / 4, 0, 0] ∧ win0_9.index t = ![t.val / 4, 0, 0] ∧ win0_10.index t = ![t.val / 4, t.val % 4, 0]
    ∧ t.val / 4 < 4 :=
  (by decide +kernel : ∀ t : Fin grid0.N, _)

/-- Whether a step is a batch's first, and whether it is not its last, as the body's two comparisons say. -/
theorem edges : ∀ t : Fin cfg0.N,
    Scalar.cmpi .sgt (BitVec.ofNat 32 (grid0.coords t 1).val) 0#32 = BitVec.ofBool (decide (0 < t.val % 4))
      ∧ Scalar.cmpi .slt (BitVec.ofNat 32 (grid0.coords t 1).val) 3#32 = BitVec.ofBool (decide (t.val % 4 < 3)) :=
  (by decide +kernel : ∀ t : Fin grid0.N, _)

/-- The mask over the block before a step's first: closed everywhere at a batch's first step. -/
theorem first_mask (t : Fin cfg0.N) (r l : Fin 128) :
    k0_pay9 (F := Ideal) (BitVec.ofNat 32 (grid0.coords t 1).val) k0_pay3 k0_pay5 (ix2 r l)
      = if r.val ≤ l.val ∧ 0 < t.val % 4 * 8 then (0 : EReal) else ⊥ := by
  unfold k0_pay9
  simp only [(edges t).1]
  by_cases h : 0 < t.val % 4
  · have h' : 0 < t.val % 4 * 8 := by omega
    simp only [h, h', and_true]
    exact mask_before r l
  · have h' : ¬ 0 < t.val % 4 * 8 := by omega
    simp only [h, h', and_false, if_false]
    exact mask_none r l

/-- The mask over the block after a step's last: closed everywhere at a batch's last step. -/
theorem last_mask (t : Fin cfg0.N) (r l : Fin 128) :
    k0_pay170 (F := Ideal) (BitVec.ofNat 32 (grid0.coords t 1).val) k0_pay3 k0_pay6 (ix2 r l)
      = if l.val ≤ r.val ∧ t.val % 4 * 8 + 7 < 31 then (0 : EReal) else ⊥ := by
  unfold k0_pay170
  simp only [(edges t).2]
  by_cases h : t.val % 4 < 3
  · have h' : t.val % 4 * 8 + 7 < 31 := by omega
    simp only [h, h', and_true]
    exact mask_after r l
  · have h' : ¬ t.val % 4 * 8 + 7 < 31 := by omega
    simp only [h, h', and_false, if_false]
    exact mask_none r l

/-- A tile of 128 rows without its leading axis. -/
theorem tile_apply (v : Vec Ideal S1x128x128 .bf16) (r l : Fin 128) : k0_pay10 v (ix2 r l) = v (ix3 0 r l) := by
  pointwise [k0_pay10]

/-- The context's keys without their leading axis. -/
theorem context_rows (v : Vec Ideal S1x256x128 .bf16) (r : Fin 256) (l : Fin 128) : k0_pay7 v (ix2 r l) = v (ix3 0 r l) := by
  pointwise [k0_pay7]

/-! ## Which rows of the arguments each input block shows -/

section
variable (m : (ℓ : Loc nD τ sig) → Buf (Elt Ideal) ℓ) (c : Dev nD) (t : Fin cfg0.N)

theorem rd0 (i : Fin 8) : iblk m c 0 t (ix1 i) = m ((c : Thread nD τ).loc main_arg5) (ix1 i) := by
  blk_ext [iblk, V, idx t]

theorem rd1 (b : Fin 4) (hb : b.val = t.val / 4) (s : Fin 4096) (r : Fin 1024) (hr : s.val = t.val % 4 * 1024 + r.val)
    (l : Fin 512) : iblk m c 1 t (ix3 0 r l) = m ((c : Thread nD τ).loc main_arg0)
      (ix4 b s ⟨headAt (l.val / 64), by unfold headAt; omega⟩ ⟨l.val % 64, by omega⟩) := by
  blk_ext! [iblk, V, idx t]
  simp only [headAt]
  omega

theorem rd2 (b : Fin 4) (hb : b.val = t.val / 4) (s : Fin 4096) (r : Fin 128) (hr : s.val = (t.val % 4 * 8 - 1) * 128 + r.val)
    (l : Fin 128) : iblk m c 2 t (ix3 0 r l) = m ((c : Thread nD τ).loc main_arg1)
      (ix4 b s ⟨l.val / 64, by omega⟩ ⟨l.val % 64, by omega⟩) := by
  blk_ext! [iblk, V, idx t]

theorem rd3 (b : Fin 4) (hb : b.val = t.val / 4) (s : Fin 4096) (r : Fin 1024) (hr : s.val = t.val % 4 * 1024 + r.val)
    (l : Fin 128) : iblk m c 3 t (ix3 0 r l) = m ((c : Thread nD τ).loc main_arg1)
      (ix4 b s ⟨l.val / 64, by omega⟩ ⟨l.val % 64, by omega⟩) := by
  blk_ext! [iblk, V, idx t]

theorem rd4 (b : Fin 4) (hb : b.val = t.val / 4) (s : Fin 4096) (r : Fin 128) (hr : s.val = min (t.val % 4 * 8 + 8) 31 * 128 + r.val)
    (l : Fin 128) : iblk m c 4 t (ix3 0 r l) = m ((c : Thread nD τ).loc main_arg1)
      (ix4 b s ⟨l.val / 64, by omega⟩ ⟨l.val % 64, by omega⟩) := by
  blk_ext! [iblk, V, idx t]

theorem rd5 (b : Fin 4) (hb : b.val = t.val / 4) (s : Fin 4096) (r : Fin 128) (hr : s.val = (t.val % 4 * 8 - 1) * 128 + r.val)
    (l : Fin 128) : iblk m c 5 t (ix3 0 r l) = m ((c : Thread nD τ).loc main_arg2)
      (ix4 b s ⟨l.val / 64, by omega⟩ ⟨l.val % 64, by omega⟩) := by
  blk_ext! [iblk, V, idx t]

theorem rd6 (b : Fin 4) (hb : b.val = t.val / 4) (s : Fin 4096) (r : Fin 1024) (hr : s.val = t.val % 4 * 1024 + r.val)
    (l : Fin 128) : iblk m c 6 t (ix3 0 r l) = m ((c : Thread nD τ).loc main_arg2)
      (ix4 b s ⟨l.val / 64, by omega⟩ ⟨l.val % 64, by omega⟩) := by
  blk_ext! [iblk, V, idx t]

theorem rd7 (b : Fin 4) (hb : b.val = t.val / 4) (s : Fin 4096) (r : Fin 128) (hr : s.val = min (t.val % 4 * 8 + 8) 31 * 128 + r.val)
    (l : Fin 128) : iblk m c 7 t (ix3 0 r l) = m ((c : Thread nD τ).loc main_arg2)
      (ix4 b s ⟨l.val / 64, by omega⟩ ⟨l.val % 64, by omega⟩) := by
  blk_ext! [iblk, V, idx t]

theorem rd8 (b : Fin 4) (hb : b.val = t.val / 4) (r : Fin 256) (l : Fin 128) :
    iblk m c 8 t (ix3 0 r l) = m ((c : Thread nD τ).loc main_arg3)
      (ix4 b r ⟨l.val / 64, by omega⟩ ⟨l.val % 64, by omega⟩) := by
  blk_ext! [iblk, V, idx t]

theorem rd9 (b : Fin 4) (hb : b.val = t.val / 4) (r : Fin 256) (l : Fin 128) :
    iblk m c 9 t (ix3 0 r l) = m ((c : Thread nD τ).loc main_arg4)
      (ix4 b r ⟨l.val / 64, by omega⟩ ⟨l.val % 64, by omega⟩) := by
  blk_ext! [iblk, V, idx t]

theorem one_entry : 0 < S1.numel := by decide

/-- The sinks' tile of a step: stacked row `R` has its head's sink, to base 2. -/
theorem sink_tile (R : Fin 1024) (l : Fin 128) :
    k0_pay2 (F := Ideal) (View.ld (iblk m c 0 t) (Rect.unit ![0] ![1] inb_S8_S1_0) (Shape.Idx.first (s := S1) one_entry))
      (View.ld (iblk m c 0 t) (Rect.unit ![4] ![1] inb_S8_S1_4) (Shape.Idx.first (s := S1) one_entry))
      (View.ld (iblk m c 0 t) (Rect.unit ![1] ![1] inb_S8_S1_1) (Shape.Idx.first (s := S1) one_entry))
      (View.ld (iblk m c 0 t) (Rect.unit ![5] ![1] inb_S8_S1_5) (Shape.Idx.first (s := S1) one_entry))
      (View.ld (iblk m c 0 t) (Rect.unit ![2] ![1] inb_S8_S1_2) (Shape.Idx.first (s := S1) one_entry))
      (View.ld (iblk m c 0 t) (Rect.unit ![6] ![1] inb_S8_S1_6) (Shape.Idx.first (s := S1) one_entry))
      (View.ld (iblk m c 0 t) (Rect.unit ![3] ![1] inb_S8_S1_3) (Shape.Idx.first (s := S1) one_entry))
      (View.ld (iblk m c 0 t) (Rect.unit ![7] ![1] inb_S8_S1_7) (Shape.Idx.first (s := S1) one_entry)) (ix2 R l)
      = @HMul.hMul EReal EReal EReal _ (m ((c : Thread nD τ).loc main_arg5) (ix1 ⟨headAt (R.val / 128), by unfold headAt; omega⟩))
        ((invLog2 : ℝ) : EReal) := by
  have h (i : Nat) (hi : i < 8) (inb) (p : 0 < S1.numel) :
      View.ld (iblk m c 0 t) (Rect.unit (s := S8) ![i] ![1] inb) (Shape.Idx.first (s := S1) p) = m ((c : Thread nD τ).loc main_arg5) (ix1 ⟨i, hi⟩) :=
    (View.ld_unit_apply_of _ _ _ _ _ (ix1 ⟨i, hi⟩) (by intro a; fin_cases a; simp [Shape.Idx.first])).trans (rd0 m c t ⟨i, hi⟩)
  rw [h 0 (by omega), h 1 (by omega), h 2 (by omega), h 3 (by omega), h 4 (by omega), h 5 (by omega), h 6 (by omega), h 7 (by omega)]
  exact sink_apply (fun i => m ((c : Thread nD τ).loc main_arg5) (ix1 i)) R l

/-- 128 rows of a step's own keys, from row `off` of its 1024. -/
theorem key_rows (off : Nat) (inb) (b : Fin 4) (hb : b.val = t.val / 4) (l x : Fin 128) (ho : off + 128 ≤ 1024) (s : Fin 4096)
    (hs : s.val = t.val % 4 * 1024 + off + l.val) :
    k0_pay10 (View.ld (iblk m c 3 t) (Rect.unit (s := S1x1024x128) ![0, off, 0] S1x128x128.size inb)) (ix2 l x)
      = m ((c : Thread nD τ).loc main_arg1) (ix4 b s ⟨x.val / 64, by omega⟩ ⟨x.val % 64, by omega⟩) :=
  (tile_apply _ _ _).trans ((View.ld_unit_apply_of _ _ _ _ _ (ix3 0 ⟨off + l.val, by omega⟩ x)
    (by intro a; fin_cases a <;> simp)).trans (rd3 m c t b hb s ⟨off + l.val, by omega⟩ (by simp only; omega) x))

/-- 128 rows of a step's own values, from row `off` of its 1024. -/
theorem value_rows (off : Nat) (inb) (b : Fin 4) (hb : b.val = t.val / 4) (l x : Fin 128) (ho : off + 128 ≤ 1024) (s : Fin 4096)
    (hs : s.val = t.val % 4 * 1024 + off + l.val) :
    k0_pay10 (View.ld (iblk m c 6 t) (Rect.unit (s := S1x1024x128) ![0, off, 0] S1x128x128.size inb)) (ix2 l x)
      = m ((c : Thread nD τ).loc main_arg2) (ix4 b s ⟨x.val / 64, by omega⟩ ⟨x.val % 64, by omega⟩) :=
  (tile_apply _ _ _).trans ((View.ld_unit_apply_of _ _ _ _ _ (ix3 0 ⟨off + l.val, by omega⟩ x)
    (by intro a; fin_cases a <;> simp)).trans (rd6 m c t b hb s ⟨off + l.val, by omega⟩ (by simp only; omega) x))

/-- 128 rows of a step's queries at the four pairs of heads, from row `off` of its 1024. -/
theorem query_rows (off : Nat) (i0 i1 i2 i3) (b : Fin 4) (hb : b.val = t.val / 4) (ho : off + 128 ≤ 1024) (j : Fin 4) (r l : Fin 128)
    (s : Fin 4096) (hs : s.val = t.val % 4 * 1024 + off + r.val) :
    (![View.ld (iblk m c 1 t) (Rect.unit (s := S1x1024x512) ![0, off, 0] S1x128x128.size i0),
      View.ld (iblk m c 1 t) (Rect.unit (s := S1x1024x512) ![0, off, 128] S1x128x128.size i1),
      View.ld (iblk m c 1 t) (Rect.unit (s := S1x1024x512) ![0, off, 256] S1x128x128.size i2),
      View.ld (iblk m c 1 t) (Rect.unit (s := S1x1024x512) ![0, off, 384] S1x128x128.size i3)] :
        Fin 4 → Vec Ideal S1x128x128 .f32) j (ix3 0 r l)
      = m ((c : Thread nD τ).loc main_arg0)
        (ix4 b s ⟨headAt (j.val * 2 + l.val / 64), by unfold headAt; omega⟩ ⟨l.val % 64, by omega⟩) := by
  have e1 : (⟨headAt ((j.val * 128 + l.val) / 64), by unfold headAt; omega⟩ : Fin 8)
      = ⟨headAt (j.val * 2 + l.val / 64), by unfold headAt; omega⟩ := Fin.ext (by simp only [headAt]; omega)
  have e2 : (⟨(j.val * 128 + l.val) % 64, by omega⟩ : Fin 64) = ⟨l.val % 64, by omega⟩ := Fin.ext (by simp only; omega)
  have h := rd1 m c t b hb s ⟨off + r.val, by omega⟩ (by simp only; omega) ⟨j.val * 128 + l.val, by omega⟩
  refine Eq.trans ?_ (h.trans (congrArg₂ (fun u v => m ((c : Thread nD τ).loc main_arg0) (ix4 b s u v)) e1 e2))
  have p (q : Nat) (hq : q + 128 ≤ 512) (i) : View.ld (iblk m c 1 t) (Rect.unit (s := S1x1024x512) ![0, off, q] S1x128x128.size i) (ix3 0 r l)
      = iblk m c 1 t (ix3 0 ⟨off + r.val, by omega⟩ ⟨q + l.val, by omega⟩) :=
    View.ld_unit_apply_of _ _ _ _ _ _ (by intro a; fin_cases a <;> simp)
  fin_cases j
  · exact p 0 (by omega) i0
  · exact p 128 (by omega) i1
  · exact p 256 (by omega) i2
  · exact p 384 (by omega) i3

/-- Sub-block `a` of a step computes the reference's rows of block `t % 4 * 8 + a`, whatever stands for its neighbours'
    keys, values and masks, as long as it is what the block needs of them. -/
theorem sub_block
    (hq : ∀ i, ∃ x : ℝ, m ((c : Thread nD τ).loc main_arg0) i = (x : EReal))
    (hk : ∀ i, ∃ x : ℝ, m ((c : Thread nD τ).loc main_arg1) i = (x : EReal))
    (hkc : ∀ i, ∃ x : ℝ, m ((c : Thread nD τ).loc main_arg3) i = (x : EReal))
    (hs : ∀ i, ∃ x : ℝ, m ((c : Thread nD τ).loc main_arg5) i = (x : EReal))
    (b : Fin 4) (hb : b.val = t.val / 4) (off n : Nat) (hn : n * 128 = t.val % 4 * 1024 + off) (h32 : n < 32) (ho : off + 128 ≤ 1024)
    (i0 i1 i2 i3 ic iv)
    (mp mn : Vec Ideal S128x128 .f32) (kp kn vp vn : Vec Ideal S128x128 .bf16)
    (hmp : ∀ r l : Fin 128, mp (ix2 r l) = if r.val ≤ l.val ∧ 0 < n then (0 : EReal) else ⊥)
    (hmn : ∀ r l : Fin 128, mn (ix2 r l) = if l.val ≤ r.val ∧ n < 31 then (0 : EReal) else ⊥)
    (hkp : ∀ (h : 0 < n) (l x : Fin 128), kp (ix2 l x)
      = m ((c : Thread nD τ).loc main_arg1) (ix4 b ⟨(n - 1) * 128 + l.val, by omega⟩ ⟨x.val / 64, by omega⟩ ⟨x.val % 64, by omega⟩))
    (hkn : ∀ (h : n < 31) (l x : Fin 128), kn (ix2 l x)
      = m ((c : Thread nD τ).loc main_arg1) (ix4 b ⟨(n + 1) * 128 + l.val, by omega⟩ ⟨x.val / 64, by omega⟩ ⟨x.val % 64, by omega⟩))
    (hvp : ∀ (h : 0 < n) (l x : Fin 128), vp (ix2 l x)
      = m ((c : Thread nD τ).loc main_arg2) (ix4 b ⟨(n - 1) * 128 + l.val, by omega⟩ ⟨x.val / 64, by omega⟩ ⟨x.val % 64, by omega⟩))
    (hvn : ∀ (h : n < 31) (l x : Fin 128), vn (ix2 l x)
      = m ((c : Thread nD τ).loc main_arg2) (ix4 b ⟨(n + 1) * 128 + l.val, by omega⟩ ⟨x.val / 64, by omega⟩ ⟨x.val % 64, by omega⟩))
    (r : Fin 128) (k : Fin 512) (l : Fin 4096) (hl : l.val = n * 128 + r.val) :
    chain (k0_pay2 (F := Ideal)
      (View.ld (iblk m c 0 t) (Rect.unit ![0] ![1] inb_S8_S1_0) (Shape.Idx.first (s := S1) one_entry))
      (View.ld (iblk m c 0 t) (Rect.unit ![4] ![1] inb_S8_S1_4) (Shape.Idx.first (s := S1) one_entry))
      (View.ld (iblk m c 0 t) (Rect.unit ![1] ![1] inb_S8_S1_1) (Shape.Idx.first (s := S1) one_entry))
      (View.ld (iblk m c 0 t) (Rect.unit ![5] ![1] inb_S8_S1_5) (Shape.Idx.first (s := S1) one_entry))
      (View.ld (iblk m c 0 t) (Rect.unit ![2] ![1] inb_S8_S1_2) (Shape.Idx.first (s := S1) one_entry))
      (View.ld (iblk m c 0 t) (Rect.unit ![6] ![1] inb_S8_S1_6) (Shape.Idx.first (s := S1) one_entry))
      (View.ld (iblk m c 0 t) (Rect.unit ![3] ![1] inb_S8_S1_3) (Shape.Idx.first (s := S1) one_entry))
      (View.ld (iblk m c 0 t) (Rect.unit ![7] ![1] inb_S8_S1_7) (Shape.Idx.first (s := S1) one_entry)))
      mp mn kp (k0_pay10 (View.ld (iblk m c 3 t) (Rect.unit (s := S1x1024x128) ![0, off, 0] S1x128x128.size ic))) kn
      vp (k0_pay10 (View.ld (iblk m c 6 t) (Rect.unit (s := S1x1024x128) ![0, off, 0] S1x128x128.size iv))) vn
      (k0_pay7 (iblk m c 8 t)) (k0_pay7 (iblk m c 9 t))
      (View.ld (iblk m c 1 t) (Rect.unit (s := S1x1024x512) ![0, off, 0] S1x128x128.size i0))
      (View.ld (iblk m c 1 t) (Rect.unit (s := S1x1024x512) ![0, off, 128] S1x128x128.size i1))
      (View.ld (iblk m c 1 t) (Rect.unit (s := S1x1024x512) ![0, off, 256] S1x128x128.size i2))
      (View.ld (iblk m c 1 t) (Rect.unit (s := S1x1024x512) ![0, off, 384] S1x128x128.size i3)) (ix3 0 r k)
    = Cert.ReferenceIdeal.Read.val_main_v78
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5)) (ix3 b l k) :=
  block_eq _ _ _ _ _ _ hq hk hkc hs b ⟨n, h32⟩
    ![View.ld (iblk m c 1 t) (Rect.unit (s := S1x1024x512) ![0, off, 0] S1x128x128.size i0),
      View.ld (iblk m c 1 t) (Rect.unit (s := S1x1024x512) ![0, off, 128] S1x128x128.size i1),
      View.ld (iblk m c 1 t) (Rect.unit (s := S1x1024x512) ![0, off, 256] S1x128x128.size i2),
      View.ld (iblk m c 1 t) (Rect.unit (s := S1x1024x512) ![0, off, 384] S1x128x128.size i3)]
    _ mp mn kp _ kn vp _ vn _ _
    (fun j r l => query_rows m c t off i0 i1 i2 i3 b hb ho j r l _ (by simp only; omega))
    (fun R l => sink_tile m c t R l) hmp hmn hkp
    (fun l x => key_rows m c t off ic b hb l x ho _ (by simp only; omega)) hkn hvp
    (fun l x => value_rows m c t off iv b hb l x ho _ (by simp only; omega)) hvn
    (fun l x => (context_rows _ _ _).trans (rd8 m c t b hb l x))
    (fun l x => (context_rows _ _ _).trans (rd9 m c t b hb l x)) r k l hl

end

end Cert.Window

end
-- ==== Proof.WindowValue.lean ====
/-
  The call `window_attn`'s result array after the run: windowed attention at every token and head (Proof/WindowBlock.lean).
-/
module

public import proofs.«01_k».proof.Proof.Gen.KernelIdeal.Value
public import proofs.«01_k».proof.Proof.WindowRows
public import Idealize.ShloMosaic.Lib.Pipeline.ValueKit
public import Idealize.ShloMosaic.Lib.ValueIdxRank6
public import Idealize.ShloMosaic.Lib.Claim

@[expose] public section

set_option maxRecDepth 16384

noncomputable section

namespace Cert.Window

open Idealize.ShloMosaic Idealize.ShloMosaic.TcCoe Idealize.SL.Sem
open Idealize.ShloMosaic.Pipeline (Dat)
open Cert.KernelIdeal Cert.KernelIdeal.Gen

/-- A sub-block with one before it has the band's mask there. -/
theorem open_before (n : Nat) (h : 0 < n) (r l : Fin 128) :
    k0_pay5 (F := Ideal) (ix2 r l) = if r.val ≤ l.val ∧ 0 < n then (0 : EReal) else ⊥ := by
  simp only [h, and_true]
  exact mask_before r l

/-- A sub-block with one after it has the band's mask there. -/
theorem open_after (n : Nat) (h : n < 31) (r l : Fin 128) :
    k0_pay6 (F := Ideal) (ix2 r l) = if l.val ≤ r.val ∧ n < 31 then (0 : EReal) else ⊥ := by
  simp only [h, and_true]
  exact mask_after r l

set_option maxHeartbeats 1000000 in
/-- What point `t` leaves at row `r`, lane `k` of its block is the reference's result where the block puts it. -/
theorem point (m : (ℓ : Loc nD τ sig) → Buf (Elt Ideal) ℓ) (c : Dev nD)
    (hq : ∀ i, ∃ x : ℝ, m ((c : Thread nD τ).loc main_arg0) i = (x : EReal))
    (hk : ∀ i, ∃ x : ℝ, m ((c : Thread nD τ).loc main_arg1) i = (x : EReal))
    (hkc : ∀ i, ∃ x : ℝ, m ((c : Thread nD τ).loc main_arg3) i = (x : EReal))
    (hs : ∀ i, ∃ x : ℝ, m ((c : Thread nD τ).loc main_arg5) i = (x : EReal))
    (t : Fin cfg0.N) (r : Fin 1024) (k : Fin 512) (b : Fin 4) (hb : b.val = t.val / 4) (l : Fin 4096)
    (hl : l.val = t.val % 4 * 1024 + r.val) :
    outsAt0 m c t (ix3 0 r k) = Cert.ReferenceIdeal.Read.val_main_v78
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5)) (ix3 b l k) := by
  unfold outsAt0
  frame_out
  canon_tiles x h
  all_goals
    rw [eq_unit x]
    obtain ⟨kk, hkk⟩ : ∃ kk : Fin 512, kk = x 2 := ⟨_, rfl⟩
    obtain rfl : k = kk := Fin.ext (h2.trans (congrArg Fin.val hkk.symm))
    rw [← hkk]
    have hr1 : r.val = _ := h1
  · refine Eq.trans (b := chain
        (k0_pay2 (F := Ideal)
          (View.ld (iblk m c 0 t) (Rect.unit ![0] ![1] inb_S8_S1_0) (Shape.Idx.first (s := S1) one_entry))
          (View.ld (iblk m c 0 t) (Rect.unit ![4] ![1] inb_S8_S1_4) (Shape.Idx.first (s := S1) one_entry))
          (View.ld (iblk m c 0 t) (Rect.unit ![1] ![1] inb_S8_S1_1) (Shape.Idx.first (s := S1) one_entry))
          (View.ld (iblk m c 0 t) (Rect.unit ![5] ![1] inb_S8_S1_5) (Shape.Idx.first (s := S1) one_entry))
          (View.ld (iblk m c 0 t) (Rect.unit ![2] ![1] inb_S8_S1_2) (Shape.Idx.first (s := S1) one_entry))
          (View.ld (iblk m c 0 t) (Rect.unit ![6] ![1] inb_S8_S1_6) (Shape.Idx.first (s := S1) one_entry))
          (View.ld (iblk m c 0 t) (Rect.unit ![3] ![1] inb_S8_S1_3) (Shape.Idx.first (s := S1) one_entry))
          (View.ld (iblk m c 0 t) (Rect.unit ![7] ![1] inb_S8_S1_7) (Shape.Idx.first (s := S1) one_entry)))
        (k0_pay5 (F := Ideal)) (k0_pay170 (F := Ideal) (BitVec.ofNat 32 (grid0.coords t 1).val) k0_pay3 k0_pay6)
        (k0_pay10 (F := Ideal) (View.ld (iblk m c 3 t) (Rect.unit ![0, 768, 0] ![1, 128, 128] inb_S1x1024x128_S1x128x128_0_768_0)))
        (k0_pay10 (F := Ideal) (View.ld (iblk m c 3 t) (Rect.unit ![0, 896, 0] ![1, 128, 128] inb_S1x1024x128_S1x128x128_0_896_0)))
        (k0_pay10 (F := Ideal) (iblk m c 4 t))
        (k0_pay10 (F := Ideal) (View.ld (iblk m c 6 t) (Rect.unit ![0, 768, 0] ![1, 128, 128] inb_S1x1024x128_S1x128x128_0_768_0)))
        (k0_pay10 (F := Ideal) (View.ld (iblk m c 6 t) (Rect.unit ![0, 896, 0] ![1, 128, 128] inb_S1x1024x128_S1x128x128_0_896_0)))
        (k0_pay10 (F := Ideal) (iblk m c 7 t))
        (k0_pay7 (F := Ideal) (iblk m c 8 t)) (k0_pay7 (F := Ideal) (iblk m c 9 t))
        (View.ld (iblk m c 1 t) (Rect.unit ![0, 896, 0] ![1, 128, 128] inb_S1x1024x512_S1x128x128_0_896_0))
        (View.ld (iblk m c 1 t) (Rect.unit ![0, 896, 128] ![1, 128, 128] inb_S1x1024x512_S1x128x128_0_896_128))
        (View.ld (iblk m c 1 t) (Rect.unit ![0, 896, 256] ![1, 128, 128] inb_S1x1024x512_S1x128x128_0_896_256))
        (View.ld (iblk m c 1 t) (Rect.unit ![0, 896, 384] ![1, 128, 128] inb_S1x1024x512_S1x128x128_0_896_384)) (ix3 0 (x 1) k)) rfl ?_
    exact sub_block m c t hq hk hkc hs b hb 896 (t.val % 4 * 8 + 7) (by omega) (by omega) (by omega) _ _ _ _ _ _ _ _ _ _ _ _
      (open_before _ (by omega))
      (fun r l => last_mask t r l)
      (fun _ l x => key_rows m c t 768 _ b hb l x (by omega) _ (by simp only; omega))
      (fun h l x => (tile_apply _ _ _).trans (rd4 m c t b hb _ l (by simp only; omega) x))
      (fun _ l x => value_rows m c t 768 _ b hb l x (by omega) _ (by simp only; omega))
      (fun h l x => (tile_apply _ _ _).trans (rd7 m c t b hb _ l (by simp only; omega) x)) (x 1) k l (by omega)
  · refine Eq.trans (b := chain
        (k0_pay2 (F := Ideal)
          (View.ld (iblk m c 0 t) (Rect.unit ![0] ![1] inb_S8_S1_0) (Shape.Idx.first (s := S1) one_entry))
          (View.ld (iblk m c 0 t) (Rect.unit ![4] ![1] inb_S8_S1_4) (Shape.Idx.first (s := S1) one_entry))
          (View.ld (iblk m c 0 t) (Rect.unit ![1] ![1] inb_S8_S1_1) (Shape.Idx.first (s := S1) one_entry))
          (View.ld (iblk m c 0 t) (Rect.unit ![5] ![1] inb_S8_S1_5) (Shape.Idx.first (s := S1) one_entry))
          (View.ld (iblk m c 0 t) (Rect.unit ![2] ![1] inb_S8_S1_2) (Shape.Idx.first (s := S1) one_entry))
          (View.ld (iblk m c 0 t) (Rect.unit ![6] ![1] inb_S8_S1_6) (Shape.Idx.first (s := S1) one_entry))
          (View.ld (iblk m c 0 t) (Rect.unit ![3] ![1] inb_S8_S1_3) (Shape.Idx.first (s := S1) one_entry))
          (View.ld (iblk m c 0 t) (Rect.unit ![7] ![1] inb_S8_S1_7) (Shape.Idx.first (s := S1) one_entry)))
        (k0_pay5 (F := Ideal)) (k0_pay6 (F := Ideal))
        (k0_pay10 (F := Ideal) (View.ld (iblk m c 3 t) (Rect.unit ![0, 640, 0] ![1, 128, 128] inb_S1x1024x128_S1x128x128_0_640_0)))
        (k0_pay10 (F := Ideal) (View.ld (iblk m c 3 t) (Rect.unit ![0, 768, 0] ![1, 128, 128] inb_S1x1024x128_S1x128x128_0_768_0)))
        (k0_pay10 (F := Ideal) (View.ld (iblk m c 3 t) (Rect.unit ![0, 896, 0] ![1, 128, 128] inb_S1x1024x128_S1x128x128_0_896_0)))
        (k0_pay10 (F := Ideal) (View.ld (iblk m c 6 t) (Rect.unit ![0, 640, 0] ![1, 128, 128] inb_S1x1024x128_S1x128x128_0_640_0)))
        (k0_pay10 (F := Ideal) (View.ld (iblk m c 6 t) (Rect.unit ![0, 768, 0] ![1, 128, 128] inb_S1x1024x128_S1x128x128_0_768_0)))
        (k0_pay10 (F := Ideal) (View.ld (iblk m c 6 t) (Rect.unit ![0, 896, 0] ![1, 128, 128] inb_S1x1024x128_S1x128x128_0_896_0)))
        (k0_pay7 (F := Ideal) (iblk m c 8 t)) (k0_pay7 (F := Ideal) (iblk m c 9 t))
        (View.ld (iblk m c 1 t) (Rect.unit ![0, 768, 0] ![1, 128, 128] inb_S1x1024x512_S1x128x128_0_768_0))
        (View.ld (iblk m c 1 t) (Rect.unit ![0, 768, 128] ![1, 128, 128] inb_S1x1024x512_S1x128x128_0_768_128))
        (View.ld (iblk m c 1 t) (Rect.unit ![0, 768, 256] ![1, 128, 128] inb_S1x1024x512_S1x128x128_0_768_256))
        (View.ld (iblk m c 1 t) (Rect.unit ![0, 768, 384] ![1, 128, 128] inb_S1x1024x512_S1x128x128_0_768_384)) (ix3 0 (x 1) k)) rfl ?_
    exact sub_block m c t hq hk hkc hs b hb 768 (t.val % 4 * 8 + 6) (by omega) (by omega) (by omega) _ _ _ _ _ _ _ _ _ _ _ _
      (open_before _ (by omega))
      (open_after _ (by omega))
      (fun _ l x => key_rows m c t 640 _ b hb l x (by omega) _ (by simp only; omega))
      (fun _ l x => key_rows m c t 896 _ b hb l x (by omega) _ (by simp only; omega))
      (fun _ l x => value_rows m c t 640 _ b hb l x (by omega) _ (by simp only; omega))
      (fun _ l x => value_rows m c t 896 _ b hb l x (by omega) _ (by simp only; omega)) (x 1) k l (by omega)
  · refine Eq.trans (b := chain
        (k0_pay2 (F := Ideal)
          (View.ld (iblk m c 0 t) (Rect.unit ![0] ![1] inb_S8_S1_0) (Shape.Idx.first (s := S1) one_entry))
          (View.ld (iblk m c 0 t) (Rect.unit ![4] ![1] inb_S8_S1_4) (Shape.Idx.first (s := S1) one_entry))
          (View.ld (iblk m c 0 t) (Rect.unit ![1] ![1] inb_S8_S1_1) (Shape.Idx.first (s := S1) one_entry))
          (View.ld (iblk m c 0 t) (Rect.unit ![5] ![1] inb_S8_S1_5) (Shape.Idx.first (s := S1) one_entry))
          (View.ld (iblk m c 0 t) (Rect.unit ![2] ![1] inb_S8_S1_2) (Shape.Idx.first (s := S1) one_entry))
          (View.ld (iblk m c 0 t) (Rect.unit ![6] ![1] inb_S8_S1_6) (Shape.Idx.first (s := S1) one_entry))
          (View.ld (iblk m c 0 t) (Rect.unit ![3] ![1] inb_S8_S1_3) (Shape.Idx.first (s := S1) one_entry))
          (View.ld (iblk m c 0 t) (Rect.unit ![7] ![1] inb_S8_S1_7) (Shape.Idx.first (s := S1) one_entry)))
        (k0_pay5 (F := Ideal)) (k0_pay6 (F := Ideal))
        (k0_pay10 (F := Ideal) (View.ld (iblk m c 3 t) (Rect.unit ![0, 512, 0] ![1, 128, 128] inb_S1x1024x128_S1x128x128_0_512_0)))
        (k0_pay10 (F := Ideal) (View.ld (iblk m c 3 t) (Rect.unit ![0, 640, 0] ![1, 128, 128] inb_S1x1024x128_S1x128x128_0_640_0)))
        (k0_pay10 (F := Ideal) (View.ld (iblk m c 3 t) (Rect.unit ![0, 768, 0] ![1, 128, 128] inb_S1x1024x128_S1x128x128_0_768_0)))
        (k0_pay10 (F := Ideal) (View.ld (iblk m c 6 t) (Rect.unit ![0, 512, 0] ![1, 128, 128] inb_S1x1024x128_S1x128x128_0_512_0)))
        (k0_pay10 (F := Ideal) (View.ld (iblk m c 6 t) (Rect.unit ![0, 640, 0] ![1, 128, 128] inb_S1x1024x128_S1x128x128_0_640_0)))
        (k0_pay10 (F := Ideal) (View.ld (iblk m c 6 t) (Rect.unit ![0, 768, 0] ![1, 128, 128] inb_S1x1024x128_S1x128x128_0_768_0)))
        (k0_pay7 (F := Ideal) (iblk m c 8 t)) (k0_pay7 (F := Ideal) (iblk m c 9 t))
        (View.ld (iblk m c 1 t) (Rect.unit ![0, 640, 0] ![1, 128, 128] inb_S1x1024x512_S1x128x128_0_640_0))
        (View.ld (iblk m c 1 t) (Rect.unit ![0, 640, 128] ![1, 128, 128] inb_S1x1024x512_S1x128x128_0_640_128))
        (View.ld (iblk m c 1 t) (Rect.unit ![0, 640, 256] ![1, 128, 128] inb_S1x1024x512_S1x128x128_0_640_256))
        (View.ld (iblk m c 1 t) (Rect.unit ![0, 640, 384] ![1, 128, 128] inb_S1x1024x512_S1x128x128_0_640_384)) (ix3 0 (x 1) k)) rfl ?_
    exact sub_block m c t hq hk hkc hs b hb 640 (t.val % 4 * 8 + 5) (by omega) (by omega) (by omega) _ _ _ _ _ _ _ _ _ _ _ _
      (open_before _ (by omega))
      (open_after _ (by omega))
      (fun _ l x => key_rows m c t 512 _ b hb l x (by omega) _ (by simp only; omega))
      (fun _ l x => key_rows m c t 768 _ b hb l x (by omega) _ (by simp only; omega))
      (fun _ l x => value_rows m c t 512 _ b hb l x (by omega) _ (by simp only; omega))
      (fun _ l x => value_rows m c t 768 _ b hb l x (by omega) _ (by simp only; omega)) (x 1) k l (by omega)
  · refine Eq.trans (b := chain
        (k0_pay2 (F := Ideal)
          (View.ld (iblk m c 0 t) (Rect.unit ![0] ![1] inb_S8_S1_0) (Shape.Idx.first (s := S1) one_entry))
          (View.ld (iblk m c 0 t) (Rect.unit ![4] ![1] inb_S8_S1_4) (Shape.Idx.first (s := S1) one_entry))
          (View.ld (iblk m c 0 t) (Rect.unit ![1] ![1] inb_S8_S1_1) (Shape.Idx.first (s := S1) one_entry))
          (View.ld (iblk m c 0 t) (Rect.unit ![5] ![1] inb_S8_S1_5) (Shape.Idx.first (s := S1) one_entry))
          (View.ld (iblk m c 0 t) (Rect.unit ![2] ![1] inb_S8_S1_2) (Shape.Idx.first (s := S1) one_entry))
          (View.ld (iblk m c 0 t) (Rect.unit ![6] ![1] inb_S8_S1_6) (Shape.Idx.first (s := S1) one_entry))
          (View.ld (iblk m c 0 t) (Rect.unit ![3] ![1] inb_S8_S1_3) (Shape.Idx.first (s := S1) one_entry))
          (View.ld (iblk m c 0 t) (Rect.unit ![7] ![1] inb_S8_S1_7) (Shape.Idx.first (s := S1) one_entry)))
        (k0_pay5 (F := Ideal)) (k0_pay6 (F := Ideal))
        (k0_pay10 (F := Ideal) (View.ld (iblk m c 3 t) (Rect.unit ![0, 384, 0] ![1, 128, 128] inb_S1x1024x128_S1x128x128_0_384_0)))
        (k0_pay10 (F := Ideal) (View.ld (iblk m c 3 t) (Rect.unit ![0, 512, 0] ![1, 128, 128] inb_S1x1024x128_S1x128x128_0_512_0)))
        (k0_pay10 (F := Ideal) (View.ld (iblk m c 3 t) (Rect.unit ![0, 640, 0] ![1, 128, 128] inb_S1x1024x128_S1x128x128_0_640_0)))
        (k0_pay10 (F := Ideal) (View.ld (iblk m c 6 t) (Rect.unit ![0, 384, 0] ![1, 128, 128] inb_S1x1024x128_S1x128x128_0_384_0)))
        (k0_pay10 (F := Ideal) (View.ld (iblk m c 6 t) (Rect.unit ![0, 512, 0] ![1, 128, 128] inb_S1x1024x128_S1x128x128_0_512_0)))
        (k0_pay10 (F := Ideal) (View.ld (iblk m c 6 t) (Rect.unit ![0, 640, 0] ![1, 128, 128] inb_S1x1024x128_S1x128x128_0_640_0)))
        (k0_pay7 (F := Ideal) (iblk m c 8 t)) (k0_pay7 (F := Ideal) (iblk m c 9 t))
        (View.ld (iblk m c 1 t) (Rect.unit ![0, 512, 0] ![1, 128, 128] inb_S1x1024x512_S1x128x128_0_512_0))
        (View.ld (iblk m c 1 t) (Rect.unit ![0, 512, 128] ![1, 128, 128] inb_S1x1024x512_S1x128x128_0_512_128))
        (View.ld (iblk m c 1 t) (Rect.unit ![0, 512, 256] ![1, 128, 128] inb_S1x1024x512_S1x128x128_0_512_256))
        (View.ld (iblk m c 1 t) (Rect.unit ![0, 512, 384] ![1, 128, 128] inb_S1x1024x512_S1x128x128_0_512_384)) (ix3 0 (x 1) k)) rfl ?_
    exact sub_block m c t hq hk hkc hs b hb 512 (t.val % 4 * 8 + 4) (by omega) (by omega) (by omega) _ _ _ _ _ _ _ _ _ _ _ _
      (open_before _ (by omega))
      (open_after _ (by omega))
      (fun _ l x => key_rows m c t 384 _ b hb l x (by omega) _ (by simp only; omega))
      (fun _ l x => key_rows m c t 640 _ b hb l x (by omega) _ (by simp only; omega))
      (fun _ l x => value_rows m c t 384 _ b hb l x (by omega) _ (by simp only; omega))
      (fun _ l x => value_rows m c t 640 _ b hb l x (by omega) _ (by simp only; omega)) (x 1) k l (by omega)
  · refine Eq.trans (b := chain
        (k0_pay2 (F := Ideal)
          (View.ld (iblk m c 0 t) (Rect.unit ![0] ![1] inb_S8_S1_0) (Shape.Idx.first (s := S1) one_entry))
          (View.ld (iblk m c 0 t) (Rect.unit ![4] ![1] inb_S8_S1_4) (Shape.Idx.first (s := S1) one_entry))
          (View.ld (iblk m c 0 t) (Rect.unit ![1] ![1] inb_S8_S1_1) (Shape.Idx.first (s := S1) one_entry))
          (View.ld (iblk m c 0 t) (Rect.unit ![5] ![1] inb_S8_S1_5) (Shape.Idx.first (s := S1) one_entry))
          (View.ld (iblk m c 0 t) (Rect.unit ![2] ![1] inb_S8_S1_2) (Shape.Idx.first (s := S1) one_entry))
          (View.ld (iblk m c 0 t) (Rect.unit ![6] ![1] inb_S8_S1_6) (Shape.Idx.first (s := S1) one_entry))
          (View.ld (iblk m c 0 t) (Rect.unit ![3] ![1] inb_S8_S1_3) (Shape.Idx.first (s := S1) one_entry))
          (View.ld (iblk m c 0 t) (Rect.unit ![7] ![1] inb_S8_S1_7) (Shape.Idx.first (s := S1) one_entry)))
        (k0_pay5 (F := Ideal)) (k0_pay6 (F := Ideal))
        (k0_pay10 (F := Ideal) (View.ld (iblk m c 3 t) (Rect.unit ![0, 256, 0] ![1, 128, 128] inb_S1x1024x128_S1x128x128_0_256_0)))
        (k0_pay10 (F := Ideal) (View.ld (iblk m c 3 t) (Rect.unit ![0, 384, 0] ![1, 128, 128] inb_S1x1024x128_S1x128x128_0_384_0)))
        (k0_pay10 (F := Ideal) (View.ld (iblk m c 3 t) (Rect.unit ![0, 512, 0] ![1, 128, 128] inb_S1x1024x128_S1x128x128_0_512_0)))
        (k0_pay10 (F := Ideal) (View.ld (iblk m c 6 t) (Rect.unit ![0, 256, 0] ![1, 128, 128] inb_S1x1024x128_S1x128x128_0_256_0)))
        (k0_pay10 (F := Ideal) (View.ld (iblk m c 6 t) (Rect.unit ![0, 384, 0] ![1, 128, 128] inb_S1x1024x128_S1x128x128_0_384_0)))
        (k0_pay10 (F := Ideal) (View.ld (iblk m c 6 t) (Rect.unit ![0, 512, 0] ![1, 128, 128] inb_S1x1024x128_S1x128x128_0_512_0)))
        (k0_pay7 (F := Ideal) (iblk m c 8 t)) (k0_pay7 (F := Ideal) (iblk m c 9 t))
        (View.ld (iblk m c 1 t) (Rect.unit ![0, 384, 0] ![1, 128, 128] inb_S1x1024x512_S1x128x128_0_384_0))
        (View.ld (iblk m c 1 t) (Rect.unit ![0, 384, 128] ![1, 128, 128] inb_S1x1024x512_S1x128x128_0_384_128))
        (View.ld (iblk m c 1 t) (Rect.unit ![0, 384, 256] ![1, 128, 128] inb_S1x1024x512_S1x128x128_0_384_256))
        (View.ld (iblk m c 1 t) (Rect.unit ![0, 384, 384] ![1, 128, 128] inb_S1x1024x512_S1x128x128_0_384_384)) (ix3 0 (x 1) k)) rfl ?_
    exact sub_block m c t hq hk hkc hs b hb 384 (t.val % 4 * 8 + 3) (by omega) (by omega) (by omega) _ _ _ _ _ _ _ _ _ _ _ _
      (open_before _ (by omega))
      (open_after _ (by omega))
      (fun _ l x => key_rows m c t 256 _ b hb l x (by omega) _ (by simp only; omega))
      (fun _ l x => key_rows m c t 512 _ b hb l x (by omega) _ (by simp only; omega))
      (fun _ l x => value_rows m c t 256 _ b hb l x (by omega) _ (by simp only; omega))
      (fun _ l x => value_rows m c t 512 _ b hb l x (by omega) _ (by simp only; omega)) (x 1) k l (by omega)
  · refine Eq.trans (b := chain
        (k0_pay2 (F := Ideal)
          (View.ld (iblk m c 0 t) (Rect.unit ![0] ![1] inb_S8_S1_0) (Shape.Idx.first (s := S1) one_entry))
          (View.ld (iblk m c 0 t) (Rect.unit ![4] ![1] inb_S8_S1_4) (Shape.Idx.first (s := S1) one_entry))
          (View.ld (iblk m c 0 t) (Rect.unit ![1] ![1] inb_S8_S1_1) (Shape.Idx.first (s := S1) one_entry))
          (View.ld (iblk m c 0 t) (Rect.unit ![5] ![1] inb_S8_S1_5) (Shape.Idx.first (s := S1) one_entry))
          (View.ld (iblk m c 0 t) (Rect.unit ![2] ![1] inb_S8_S1_2) (Shape.Idx.first (s := S1) one_entry))
          (View.ld (iblk m c 0 t) (Rect.unit ![6] ![1] inb_S8_S1_6) (Shape.Idx.first (s := S1) one_entry))
          (View.ld (iblk m c 0 t) (Rect.unit ![3] ![1] inb_S8_S1_3) (Shape.Idx.first (s := S1) one_entry))
          (View.ld (iblk m c 0 t) (Rect.unit ![7] ![1] inb_S8_S1_7) (Shape.Idx.first (s := S1) one_entry)))
        (k0_pay5 (F := Ideal)) (k0_pay6 (F := Ideal))
        (k0_pay10 (F := Ideal) (View.ld (iblk m c 3 t) (Rect.unit ![0, 128, 0] ![1, 128, 128] inb_S1x1024x128_S1x128x128_0_128_0)))
        (k0_pay10 (F := Ideal) (View.ld (iblk m c 3 t) (Rect.unit ![0, 256, 0] ![1, 128, 128] inb_S1x1024x128_S1x128x128_0_256_0)))
        (k0_pay10 (F := Ideal) (View.ld (iblk m c 3 t) (Rect.unit ![0, 384, 0] ![1, 128, 128] inb_S1x1024x128_S1x128x128_0_384_0)))
        (k0_pay10 (F := Ideal) (View.ld (iblk m c 6 t) (Rect.unit ![0, 128, 0] ![1, 128, 128] inb_S1x1024x128_S1x128x128_0_128_0)))
        (k0_pay10 (F := Ideal) (View.ld (iblk m c 6 t) (Rect.unit ![0, 256, 0] ![1, 128, 128] inb_S1x1024x128_S1x128x128_0_256_0)))
        (k0_pay10 (F := Ideal) (View.ld (iblk m c 6 t) (Rect.unit ![0, 384, 0] ![1, 128, 128] inb_S1x1024x128_S1x128x128_0_384_0)))
        (k0_pay7 (F := Ideal) (iblk m c 8 t)) (k0_pay7 (F := Ideal) (iblk m c 9 t))
        (View.ld (iblk m c 1 t) (Rect.unit ![0, 256, 0] ![1, 128, 128] inb_S1x1024x512_S1x128x128_0_256_0))
        (View.ld (iblk m c 1 t) (Rect.unit ![0, 256, 128] ![1, 128, 128] inb_S1x1024x512_S1x128x128_0_256_128))
        (View.ld (iblk m c 1 t) (Rect.unit ![0, 256, 256] ![1, 128, 128] inb_S1x1024x512_S1x128x128_0_256_256))
        (View.ld (iblk m c 1 t) (Rect.unit ![0, 256, 384] ![1, 128, 128] inb_S1x1024x512_S1x128x128_0_256_384)) (ix3 0 (x 1) k)) rfl ?_
    exact sub_block m c t hq hk hkc hs b hb 256 (t.val % 4 * 8 + 2) (by omega) (by omega) (by omega) _ _ _ _ _ _ _ _ _ _ _ _
      (open_before _ (by omega))
      (open_after _ (by omega))
      (fun _ l x => key_rows m c t 128 _ b hb l x (by omega) _ (by simp only; omega))
      (fun _ l x => key_rows m c t 384 _ b hb l x (by omega) _ (by simp only; omega))
      (fun _ l x => value_rows m c t 128 _ b hb l x (by omega) _ (by simp only; omega))
      (fun _ l x => value_rows m c t 384 _ b hb l x (by omega) _ (by simp only; omega)) (x 1) k l (by omega)
  · refine Eq.trans (b := chain
        (k0_pay2 (F := Ideal)
          (View.ld (iblk m c 0 t) (Rect.unit ![0] ![1] inb_S8_S1_0) (Shape.Idx.first (s := S1) one_entry))
          (View.ld (iblk m c 0 t) (Rect.unit ![4] ![1] inb_S8_S1_4) (Shape.Idx.first (s := S1) one_entry))
          (View.ld (iblk m c 0 t) (Rect.unit ![1] ![1] inb_S8_S1_1) (Shape.Idx.first (s := S1) one_entry))
          (View.ld (iblk m c 0 t) (Rect.unit ![5] ![1] inb_S8_S1_5) (Shape.Idx.first (s := S1) one_entry))
          (View.ld (iblk m c 0 t) (Rect.unit ![2] ![1] inb_S8_S1_2) (Shape.Idx.first (s := S1) one_entry))
          (View.ld (iblk m c 0 t) (Rect.unit ![6] ![1] inb_S8_S1_6) (Shape.Idx.first (s := S1) one_entry))
          (View.ld (iblk m c 0 t) (Rect.unit ![3] ![1] inb_S8_S1_3) (Shape.Idx.first (s := S1) one_entry))
          (View.ld (iblk m c 0 t) (Rect.unit ![7] ![1] inb_S8_S1_7) (Shape.Idx.first (s := S1) one_entry)))
        (k0_pay5 (F := Ideal)) (k0_pay6 (F := Ideal))
        (k0_pay10 (F := Ideal) (View.ld (iblk m c 3 t) (Rect.unit ![0, 0, 0] ![1, 128, 128] inb_S1x1024x128_S1x128x128_0_0_0)))
        (k0_pay10 (F := Ideal) (View.ld (iblk m c 3 t) (Rect.unit ![0, 128, 0] ![1, 128, 128] inb_S1x1024x128_S1x128x128_0_128_0)))
        (k0_pay10 (F := Ideal) (View.ld (iblk m c 3 t) (Rect.unit ![0, 256, 0] ![1, 128, 128] inb_S1x1024x128_S1x128x128_0_256_0)))
        (k0_pay10 (F := Ideal) (View.ld (iblk m c 6 t) (Rect.unit ![0, 0, 0] ![1, 128, 128] inb_S1x1024x128_S1x128x128_0_0_0)))
        (k0_pay10 (F := Ideal) (View.ld (iblk m c 6 t) (Rect.unit ![0, 128, 0] ![1, 128, 128] inb_S1x1024x128_S1x128x128_0_128_0)))
        (k0_pay10 (F := Ideal) (View.ld (iblk m c 6 t) (Rect.unit ![0, 256, 0] ![1, 128, 128] inb_S1x1024x128_S1x128x128_0_256_0)))
        (k0_pay7 (F := Ideal) (iblk m c 8 t)) (k0_pay7 (F := Ideal) (iblk m c 9 t))
        (View.ld (iblk m c 1 t) (Rect.unit ![0, 128, 0] ![1, 128, 128] inb_S1x1024x512_S1x128x128_0_128_0))
        (View.ld (iblk m c 1 t) (Rect.unit ![0, 128, 128] ![1, 128, 128] inb_S1x1024x512_S1x128x128_0_128_128))
        (View.ld (iblk m c 1 t) (Rect.unit ![0, 128, 256] ![1, 128, 128] inb_S1x1024x512_S1x128x128_0_128_256))
        (View.ld (iblk m c 1 t) (Rect.unit ![0, 128, 384] ![1, 128, 128] inb_S1x1024x512_S1x128x128_0_128_384)) (ix3 0 (x 1) k)) rfl ?_
    exact sub_block m c t hq hk hkc hs b hb 128 (t.val % 4 * 8 + 1) (by omega) (by omega) (by omega) _ _ _ _ _ _ _ _ _ _ _ _
      (open_before _ (by omega))
      (open_after _ (by omega))
      (fun _ l x => key_rows m c t 0 _ b hb l x (by omega) _ (by simp only; omega))
      (fun _ l x => key_rows m c t 256 _ b hb l x (by omega) _ (by simp only; omega))
      (fun _ l x => value_rows m c t 0 _ b hb l x (by omega) _ (by simp only; omega))
      (fun _ l x => value_rows m c t 256 _ b hb l x (by omega) _ (by simp only; omega)) (x 1) k l (by omega)
  · refine Eq.trans (b := chain
        (k0_pay2 (F := Ideal)
          (View.ld (iblk m c 0 t) (Rect.unit ![0] ![1] inb_S8_S1_0) (Shape.Idx.first (s := S1) one_entry))
          (View.ld (iblk m c 0 t) (Rect.unit ![4] ![1] inb_S8_S1_4) (Shape.Idx.first (s := S1) one_entry))
          (View.ld (iblk m c 0 t) (Rect.unit ![1] ![1] inb_S8_S1_1) (Shape.Idx.first (s := S1) one_entry))
          (View.ld (iblk m c 0 t) (Rect.unit ![5] ![1] inb_S8_S1_5) (Shape.Idx.first (s := S1) one_entry))
          (View.ld (iblk m c 0 t) (Rect.unit ![2] ![1] inb_S8_S1_2) (Shape.Idx.first (s := S1) one_entry))
          (View.ld (iblk m c 0 t) (Rect.unit ![6] ![1] inb_S8_S1_6) (Shape.Idx.first (s := S1) one_entry))
          (View.ld (iblk m c 0 t) (Rect.unit ![3] ![1] inb_S8_S1_3) (Shape.Idx.first (s := S1) one_entry))
          (View.ld (iblk m c 0 t) (Rect.unit ![7] ![1] inb_S8_S1_7) (Shape.Idx.first (s := S1) one_entry)))
        (k0_pay9 (F := Ideal) (BitVec.ofNat 32 (grid0.coords t 1).val) k0_pay3 k0_pay5) (k0_pay6 (F := Ideal))
        (k0_pay10 (F := Ideal) (iblk m c 2 t))
        (k0_pay10 (F := Ideal) (View.ld (iblk m c 3 t) (Rect.unit ![0, 0, 0] ![1, 128, 128] inb_S1x1024x128_S1x128x128_0_0_0)))
        (k0_pay10 (F := Ideal) (View.ld (iblk m c 3 t) (Rect.unit ![0, 128, 0] ![1, 128, 128] inb_S1x1024x128_S1x128x128_0_128_0)))
        (k0_pay10 (F := Ideal) (iblk m c 5 t))
        (k0_pay10 (F := Ideal) (View.ld (iblk m c 6 t) (Rect.unit ![0, 0, 0] ![1, 128, 128] inb_S1x1024x128_S1x128x128_0_0_0)))
        (k0_pay10 (F := Ideal) (View.ld (iblk m c 6 t) (Rect.unit ![0, 128, 0] ![1, 128, 128] inb_S1x1024x128_S1x128x128_0_128_0)))
        (k0_pay7 (F := Ideal) (iblk m c 8 t)) (k0_pay7 (F := Ideal) (iblk m c 9 t))
        (View.ld (iblk m c 1 t) (Rect.unit ![0, 0, 0] ![1, 128, 128] inb_S1x1024x512_S1x128x128_0_0_0))
        (View.ld (iblk m c 1 t) (Rect.unit ![0, 0, 128] ![1, 128, 128] inb_S1x1024x512_S1x128x128_0_0_128))
        (View.ld (iblk m c 1 t) (Rect.unit ![0, 0, 256] ![1, 128, 128] inb_S1x1024x512_S1x128x128_0_0_256))
        (View.ld (iblk m c 1 t) (Rect.unit ![0, 0, 384] ![1, 128, 128] inb_S1x1024x512_S1x128x128_0_0_384)) (ix3 0 (x 1) k)) rfl ?_
    exact sub_block m c t hq hk hkc hs b hb 0 (t.val % 4 * 8) (by omega) (by omega) (by omega) _ _ _ _ _ _ _ _ _ _ _ _
      (fun r l => first_mask t r l)
      (open_after _ (by omega))
      (fun h l x => (tile_apply _ _ _).trans (rd2 m c t b hb _ l rfl x))
      (fun _ l x => key_rows m c t 128 _ b hb l x (by omega) _ (by simp only; omega))
      (fun h l x => (tile_apply _ _ _).trans (rd5 m c t b hb _ l rfl x))
      (fun _ l x => value_rows m c t 128 _ b hb l x (by omega) _ (by simp only; omega)) (x 1) k l (by omega)

/-- THE RESULT ARRAY AFTER THE RUN is the reference's result of the same arguments, where queries, keys, context keys
    and sinks are real numbers. -/
theorem final (m : (ℓ : Loc nD τ sig) → Buf (Elt Ideal) ℓ) (c : Dev nD)
    (hq : ∀ i, ∃ x : ℝ, m ((c : Thread nD τ).loc main_arg0) i = (x : EReal))
    (hk : ∀ i, ∃ x : ℝ, m ((c : Thread nD τ).loc main_arg1) i = (x : EReal))
    (hkc : ∀ i, ∃ x : ℝ, m ((c : Thread nD τ).loc main_arg3) i = (x : EReal))
    (hs : ∀ i, ∃ x : ℝ, m ((c : Thread nD τ).loc main_arg5) i = (x : EReal)) :
    (dats m 0 c).arrAt 10 (cfgs 0).N = Cert.ReferenceIdeal.Read.val_main_v78
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5)) := by
  refine (dats m 0 c).arrAt_eq_of_covers 10 _ (by decide +kernel) fun t _ y => ?_
  have e := idx t
  blk_simp
  rw [after0_10]
  have he : (win0_10.blk t).view.emb (ix3 0 (y 1) (y 2) : S1x1024x512.Idx)
      = ix3 ⟨t.val / 4, by omega⟩ ⟨t.val % 4 * 1024 + (y 1).val, by have := (y 1).isLt; simp at this; omega⟩ (y 2) := by
    blk_ext [idx t]
  exact (congrArg _ (eq_unit y)).trans ((point m c hq hk hkc hs t (y 1) (y 2) _ rfl _ rfl).trans
    (congrArg _ (he.symm.trans (congrArg _ (eq_unit y).symm))))

end Cert.Window

end
-- ==== Proof.WindowClaims.lean ====
/-
  The claims about the call `window_attn` (the programs Kernel, KernelIdeal and ReferenceIdeal).
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.WindowValue
public import Idealize.ShloMosaic.Lib.Quiescent

@[expose] public section

noncomputable section

namespace Cert.Window

open Idealize.ShloMosaic Idealize.ShloMosaic.TcCoe Idealize.SL.Sem

/-- The call as written runs to the end, leaves its arguments as they were and every semaphore at zero. -/
theorem frame_kernel : Cert.quiescent_Kernel := fun m ρ _ => Cert.Kernel.Gen.frame m ρ

/-- So does its reading over the extended reals. -/
theorem frame_ideal : Cert.quiescent_KernelIdeal := fun m ρ _ => Cert.KernelIdeal.Gen.frame m ρ

/-- So does the reference, which has no semaphore at all. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The two named constants have the values they are named for: `log2e` is `1 / log 2`, and `q_scale` is
    `1 / (8 log 2)`. -/
theorem preserves : Cert.preserves_Kernel_KernelIdeal :=
  ⟨IdealRules.named_const.statement Cert.KernelIdeal.κ "log2e" .f32 0x3FB8AA3B#32 _ rfl,
   IdealRules.named_const.statement Cert.KernelIdeal.κ "q_scale" .f32 0x3E38AA3B#32 _ rfl⟩

/-- A value whose absolute value is below plus infinity is a real number. -/
theorem real_of_below {s : Shape} (x : FVec Ideal s .f32) (i : s.Idx) (h : Cert.Pre_scores_finite.S_.BroadcastsInDim s (![] : Fin 0 → Fin s.rank))
    (hx : cmpf .olt (Host.absf x) (broadcastInDim s ![] h (constant (F := Ideal) Cert.Pre_scores_finite.S_ .f32 0x7F800000#32)) i = 1#1) :
    ∃ y : ℝ, x i = (y : EReal) := by
  have h1 : (Ideal.ofBits .f32 0x7F800000#32 : EReal) = ⊤ := by simp [Ideal.ofBits, Ideal.ieee]
  have h2 : (max (x i) (-(x i)) : EReal) < ⊤ := by
    have h3 : BitVec.ofBool (decide ((max (x i) (-(x i)) : EReal) < Ideal.ofBits .f32 0x7F800000#32)) = 1#1 := hx
    rw [h1] at h3
    by_contra hn
    simp only [hn, decide_false] at h3
    exact absurd h3 (by decide)
  refine ⟨(x i : EReal).toReal, (EReal.coe_toReal ?_ ?_).symm⟩
  · exact (lt_of_le_of_lt (le_max_left _ _) h2).ne
  · intro hb
    rw [hb] at h2
    exact absurd h2 (by simp)

/-- The precondition's own side conditions. -/
theorem pre_facts : Cert.Pre_scores_finite.Facts where
  bcast_S_S4x4096x8x64 := by decide
  bcast_S_S4x4096x2x64 := by decide
  bcast_S_S4x256x2x64 := by decide
  bcast_S_S8 := by decide

/-- The ideal frame under the precondition, which it does not need. -/
theorem frame_ideal_pre : Cert.quiescent_KernelIdeal_pre_scores_finite (hPre_scores_finite := pre_facts) := fun m ρ _ => frame_ideal m ρ trivial

/-- The reference's frame under the precondition, which it does not need. -/
theorem frame_reference_pre : Cert.quiescent_ReferenceIdeal_pre_scores_finite (hPre_scores_finite := pre_facts) :=
  fun m ρ _ => frame_reference m ρ trivial

/-- THE CALL COMPUTES WINDOWED ATTENTION: over the extended reals, from the same arguments, the call and the reference
    end with the same result array, where queries, keys, context keys and sinks are finite. -/
theorem algebraic : Cert.algebraic_KernelIdeal_ReferenceIdeal_pre_scores_finite (hPre_scores_finite := pre_facts) := by
  intro m ρ m' ρ' hpre hag
  refine ⟨fun c => (Cert.KernelIdeal.Gen.dats m 0 c).arrAt 10 Cert.KernelIdeal.cfg0.N, Cert.KernelIdeal.Value.run_blocks m ρ,
    (θ_run Cert.ReferenceIdeal.defs _ _).mono (fun _ h c => ⟨(h c).1.trans ?_, (h c).2⟩)
      (Cert.ReferenceIdeal.Value.run (F := Ideal) m' ρ')⟩
  obtain ⟨h0, h1, h2, h3, h4, h5⟩ := hag c
  obtain ⟨p0, p1, p3, p5⟩ := hpre c
  rw [Cert.ReferenceIdeal.Read.val_main_v78_eq, h0, h1, h2, h3, h4, h5]
  exact (final m c (fun i => real_of_below _ i pre_facts.bcast_S_S4x4096x8x64 (congrFun p0 i))
    (fun i => real_of_below _ i pre_facts.bcast_S_S4x4096x2x64 (congrFun p1 i))
    (fun i => real_of_below _ i pre_facts.bcast_S_S4x256x2x64 (congrFun p3 i))
    (fun i => real_of_below _ i pre_facts.bcast_S_S8 (congrFun p5 i))).symm

end Cert.Window

end
-- ==== Proof.FfnBody.lean ====
/-
  The gated feed-forward layer, one row of tokens at a time, and the body of the call `ffn_final` read as it.

  The definitions name, for one token's 1024 features, what the layer computes of them over the extended reals. The body
  works on four sub-blocks of 256 rows, each by the same chain of operations; `chain_apply` reads that chain at one
  index: it is the layer's row with the sum over the 2816 hidden features cut into 1024, 1024 and 768, which
  `sum_three` puts together again.
-/
module

public import proofs.«01_k».proof.Proof.Gen.Kernel2Ideal.Skeleton
public import Idealize.ShloMosaic.Lib.Pointwise

@[expose] public section

set_option maxRecDepth 16384

noncomputable section

namespace Cert.Ffn

open Idealize.ShloMosaic

/-! ## The layer, one row -/

/-- One over the root mean square of a row of 1024 values, the small constant added under the root. -/
def invRms (z : Fin 1024 → EReal) : EReal :=
  Ideal.rsqrt (Ideal.div (∑ k : Fin 1024, z k * z k) (Ideal.ofBits .f32 0x44800000#32) + Ideal.ofBits .f32 0x358637BD#32)

/-- The row normalised and scaled by `g`. -/
def normed (z g : Fin 1024 → EReal) (k : Fin 1024) : EReal := z k * invRms z * g k

/-- The row normalised, scaled by `g`, then modulated: scaled by `1 + sc` and shifted by `sh`. -/
def modulated (x g sc sh : Fin 1024 → EReal) (k : Fin 1024) : EReal := normed x g k * (1 + sc k) + sh k

/-- The gate's value through `z / (1 + e^(-z))`, times the other half's. -/
def gated (a u : EReal) : EReal := a * Ideal.div 1 (1 + Ideal.exp (0 - a)) * u

/-- A row against one column of the projection into the hidden features. -/
def proj (h w : Fin 1024 → EReal) : EReal := ∑ k : Fin 1024, h k * w k

/-- The hidden feature `j` of a row: the gate column `j`, the other half's column `2816 + j`. -/
def hidden (h : Fin 1024 → EReal) (win : Fin 1024 → Fin 5632 → EReal) (j : Fin 2816) : EReal :=
  gated (proj h fun k => win k ⟨j.val, by omega⟩) (proj h fun k => win k ⟨2816 + j.val, by omega⟩)

/-- The row after the residual: the hidden features brought back to the 1024 features, scaled by the gate row `gt`. -/
def residual (x g sc sh gt : Fin 1024 → EReal) (win : Fin 1024 → Fin 5632 → EReal) (wout : Fin 2816 → Fin 1024 → EReal)
    (k : Fin 1024) : EReal :=
  x k + gt k * ∑ j : Fin 2816, hidden (modulated x g sc sh) win j * wout j k

/-- A sum over the 2816 hidden features, cut as the body cuts it. -/
theorem sum_three (f : Fin 2816 → EReal) :
    ∑ j : Fin 2816, f j = (∑ j : Fin 1024, f ⟨j.val, by omega⟩) + (∑ j : Fin 1024, f ⟨1024 + j.val, by omega⟩)
      + ∑ j : Fin 768, f ⟨2048 + j.val, by omega⟩ := by
  rw [Fin.sum_univ_two_halves 2048 768 rfl f,
    Fin.sum_univ_two_halves 1024 1024 rfl fun j : Fin 2048 => f ⟨j.val, by omega⟩]

/-! ## The body's chain, at one index -/

open Cert.Kernel2Ideal Cert.Kernel2Ideal.Gen

section Chain

variable (X : Vec Ideal S1x256x1024 .f32) (g : Vec Ideal S1x1024 .f32) (sh sc gt : Vec Ideal S1x1x1024 .f32)

/-- The modulated row `r` of a sub-block. -/
abbrev hrow (r : Fin 256) : Fin 1024 → EReal :=
  modulated (fun l => X (ix3 0 r l)) (fun l => g (ix2 0 l)) (fun l => sc (ix3 0 0 l)) (fun l => sh (ix3 0 0 l))

theorem norm_apply (r : Fin 256) (k : Fin 1024) : k0_pay3 X g sh sc (ix2 r k) = hrow X g sh sc r k := by
  pointwise [k0_pay3, k0_pay2]
  rfl

theorem gate0_apply (w : Vec Ideal S1024x1024 .bf16) (r : Fin 256) (j : Fin 1024) :
    k0_pay4 X g sh sc w (ix2 r j) = proj (hrow X g sh sc r) fun k => w (ix2 k j) := by
  pointwise [k0_pay4, norm_apply]
  rfl

theorem up0_apply (w : Vec Ideal S1024x1024 .bf16) (r : Fin 256) (j : Fin 1024) :
    k0_pay5 X g sh sc w (ix2 r j) = proj (hrow X g sh sc r) fun k => w (ix2 k j) := by
  pointwise [k0_pay5, norm_apply]
  rfl

/-- `e^(-z)` of the first chunk's gate values. -/
theorem exp0_apply (w : Vec Ideal S1024x1024 .bf16) (r : Fin 256) (j : Fin 1024) :
    k0_pay6 X g sh sc w (ix2 r j) = Ideal.exp (0 - proj (hrow X g sh sc r) fun k => w (ix2 k j)) := by
  pointwise [k0_pay6, gate0_apply]

/-- The first two chunks' share of the row brought back to the features. -/
theorem two_apply (h : FVec Ideal S256x1024 .bf16) (a u e : FVec Ideal S256x1024 .f32)
    (w0 wg wu w1 : Vec Ideal S1024x1024 .bf16) (r : Fin 256) (c : Fin 1024) :
    k0_pay7 h a u e w0 wg wu w1 (ix2 r c)
      = ∑ j : Fin 1024, a (ix2 r j) * Ideal.div 1 (1 + e (ix2 r j)) * u (ix2 r j) * w0 (ix2 j c)
        + ∑ j : Fin 1024, gated (proj (fun k => h (ix2 r k)) fun k => wg (ix2 k j))
            (proj (fun k => h (ix2 r k)) fun k => wu (ix2 k j)) * w1 (ix2 j c) := by
  pointwise [k0_pay7]
  rfl

theorem gate2_apply (h : FVec Ideal S256x1024 .bf16) (w : Vec Ideal S1024x768 .bf16) (r : Fin 256) (j : Fin 768) :
    k0_pay8 h w (ix2 r j) = proj (fun k => h (ix2 r k)) fun k => w (ix2 k j) := by
  pointwise [k0_pay8]
  rfl

theorem up2_apply (h : FVec Ideal S256x1024 .bf16) (w : Vec Ideal S1024x768 .bf16) (r : Fin 256) (j : Fin 768) :
    k0_pay9 h w (ix2 r j) = proj (fun k => h (ix2 r k)) fun k => w (ix2 k j) := by
  pointwise [k0_pay9]
  rfl

/-- The third chunk added, the residual, and the last normalisation. -/
theorem last_apply (x y : FVec Ideal S256x1024 .f32) (a u : FVec Ideal S256x768 .f32) (z : EReal)
    (w : Vec Ideal S768x1024 .bf16) (fg : Vec Ideal S1x1024 .f32) (r : Fin 256) (c : Fin 1024) :
    k0_pay10 x y a u z w gt fg (ix3 0 r c)
      = normed (fun c => x (ix2 r c) + gt (ix3 0 0 c) * (y (ix2 r c)
          + ∑ j : Fin 768, a (ix2 r j) * Ideal.div 1 (1 + Ideal.exp (z - a (ix2 r j))) * u (ix2 r j) * w (ix2 j c)))
        (fun l => fg (ix2 0 l)) c := by
  pointwise [k0_pay10]
  rfl

/-- The whole chain of the first sub-block, from the loads it reads. -/
abbrev chain (fg : Vec Ideal S1x1024 .f32) (g0 u0 : Vec Ideal S1024x1024 .bf16) (d0 : Vec Ideal S1024x1024 .bf16)
    (g1 u1 d1 : Vec Ideal S1024x1024 .bf16) (g2 u2 : Vec Ideal S1024x768 .bf16) (d2 : Vec Ideal S768x1024 .bf16) :
    FVec Ideal S1x256x1024 .f32 :=
  k0_pay10 (k0_pay2 X) (k0_pay7 (k0_pay3 X g sh sc) (k0_pay4 X g sh sc g0) (k0_pay5 X g sh sc u0) (k0_pay6 X g sh sc g0)
    d0 g1 u1 d1) (k0_pay8 (k0_pay3 X g sh sc) g2) (k0_pay9 (k0_pay3 X g sh sc) u2) (Scalar.ofBits .f32 0x00000000#32) d2 gt fg

/-- THE CHAIN AT AN INDEX: the loads being the columns and rows of the two weight arrays that the chunks are cut at, the
    chain computes the row's residual, normalised. -/
theorem chain_apply (fg : Vec Ideal S1x1024 .f32) (g0 u0 d0 g1 u1 d1 : Vec Ideal S1024x1024 .bf16)
    (g2 u2 : Vec Ideal S1024x768 .bf16) (d2 : Vec Ideal S768x1024 .bf16)
    (win : Fin 1024 → Fin 5632 → EReal) (wout : Fin 2816 → Fin 1024 → EReal)
    (hg0 : ∀ (k j : Fin 1024), g0 (ix2 k j) = win k ⟨j.val, by omega⟩)
    (hu0 : ∀ (k j : Fin 1024), u0 (ix2 k j) = win k ⟨2816 + j.val, by omega⟩)
    (hd0 : ∀ (j c : Fin 1024), d0 (ix2 j c) = wout ⟨j.val, by omega⟩ c)
    (hg1 : ∀ (k j : Fin 1024), g1 (ix2 k j) = win k ⟨1024 + j.val, by omega⟩)
    (hu1 : ∀ (k j : Fin 1024), u1 (ix2 k j) = win k ⟨2816 + (1024 + j.val), by omega⟩)
    (hd1 : ∀ (j c : Fin 1024), d1 (ix2 j c) = wout ⟨1024 + j.val, by omega⟩ c)
    (hg2 : ∀ (k : Fin 1024) (j : Fin 768), g2 (ix2 k j) = win k ⟨2048 + j.val, by omega⟩)
    (hu2 : ∀ (k : Fin 1024) (j : Fin 768), u2 (ix2 k j) = win k ⟨2816 + (2048 + j.val), by omega⟩)
    (hd2 : ∀ (j : Fin 768) (c : Fin 1024), d2 (ix2 j c) = wout ⟨2048 + j.val, by omega⟩ c)
    (r : Fin 256) (c : Fin 1024) :
    chain X g sh sc gt fg g0 u0 d0 g1 u1 d1 g2 u2 d2 (ix3 0 r c)
      = normed (residual (fun l => X (ix3 0 r l)) (fun l => g (ix2 0 l)) (fun l => sc (ix3 0 0 l)) (fun l => sh (ix3 0 0 l))
          (fun l => gt (ix3 0 0 l)) win wout) (fun l => fg (ix2 0 l)) c := by
  have hx (c : Fin 1024) : k0_pay2 X (ix2 r c) = X (ix3 0 r c) := by pointwise [k0_pay2]
  have hz : (Scalar.ofBits (F := Ideal) .f32 0x00000000#32 : EReal) = 0 := Ideal.ofBits_zero_f32
  rw [chain, last_apply]
  refine congrArg (fun f => normed f (fun l => fg (ix2 0 l)) c) (funext fun c => ?_)
  rw [residual, sum_three, two_apply, hx]
  simp only [norm_apply, gate0_apply, up0_apply, exp0_apply, gate2_apply, up2_apply, hz, hg0, hu0, hd0, hg1, hu1, hd1, hg2, hu2, hd2]
  rfl

end Chain

end Cert.Ffn

end
-- ==== Proof.FfnReference.lean ====
/-
  The reference `reference2`, read at one token and feature: the layer's row of Proof/FfnBody.lean.
-/
module

public import proofs.«01_k».proof.Proof.Gen.Reference2Ideal.Read
public import proofs.«01_k».proof.Proof.FfnBody

@[expose] public section

set_option maxRecDepth 16384

noncomputable section

namespace Cert.Ffn

open Idealize.ShloMosaic

/-- THE LAYER'S RESULT at token `t` of batch `b`, feature `c`, from the six argument arrays: `p b s` is row `s` of the
    batch's six modulation rows, of which the feed-forward half takes shift 3, scale 4 and gate 5. -/
def layer (x : Fin 4 → Fin 4096 → Fin 1024 → EReal) (p : Fin 4 → Fin 6144 → EReal) (g : Fin 1024 → EReal)
    (win : Fin 1024 → Fin 5632 → EReal) (wout : Fin 2816 → Fin 1024 → EReal) (fg : Fin 1024 → EReal)
    (b : Fin 4) (t : Fin 4096) (c : Fin 1024) : EReal :=
  normed (residual (x b t) g (fun l => p b ⟨4096 + l.val, by omega⟩) (fun l => p b ⟨3072 + l.val, by omega⟩)
    (fun l => p b ⟨5120 + l.val, by omega⟩) win wout) fg c

open Cert.Reference2Ideal Cert.Reference2Ideal.Read

variable (x0 : Vec Ideal S4x4096x1024 .f32) (x1 : Vec Ideal S4x6144 .f32) (x2 : Vec Ideal S1024 .f32)
  (x3 : Vec Ideal S1024x5632 .f32) (x4 : Vec Ideal S2816x1024 .f32) (x5 : Vec Ideal S1024 .f32)

theorem ref_modulated (b : Fin 4) (t : Fin 4096) (k : Fin 1024) :
    val_main_v25 x0 x1 x2 (ix3 b t k)
      = modulated (fun l => x0 (ix3 b t l)) (fun l => x2 (ix1 l)) (fun l => x1 (ix2 b ⟨4096 + l.val, by omega⟩))
          (fun l => x1 (ix2 b ⟨3072 + l.val, by omega⟩)) k := by
  pointwise [val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v5, val_main_v4, val_main_v0, val_main_cst, val_main_cst_0, val_main_cst_1, val_main_cst_2]
  rfl

theorem ref_proj (b : Fin 4) (t : Fin 4096) (j : Fin 5632) :
    val_main_v26 x0 x1 x2 x3 (ix3 b t j)
      = proj (fun k => val_main_v25 x0 x1 x2 (ix3 b t k)) fun k => x3 (ix2 k j) := by
  pointwise [val_main_v26]
  rfl

theorem ref_hidden (b : Fin 4) (t : Fin 4096) (j : Fin 2816) :
    val_main_v30 x0 x1 x2 x3 (ix3 b t j)
      = hidden (fun k => val_main_v25 x0 x1 x2 (ix3 b t k)) (fun k j => x3 (ix2 k j)) j := by
  pointwise [val_main_v30, val_main_v29, val_main_call0_v5, val_main_call0_v4, val_main_call0_v3, val_main_call0_v2,
    val_main_call0_v1, val_main_call0_v0, val_main_call0_cst, val_main_call0_cst_0, val_main_v28, val_main_v27, ref_proj]
  rw [hidden, gated, zero_sub]

theorem ref_residual (b : Fin 4) (t : Fin 4096) (c : Fin 1024) :
    val_main_v34 x0 x1 x2 x3 x4 (ix3 b t c)
      = residual (fun l => x0 (ix3 b t l)) (fun l => x2 (ix1 l)) (fun l => x1 (ix2 b ⟨4096 + l.val, by omega⟩))
          (fun l => x1 (ix2 b ⟨3072 + l.val, by omega⟩)) (fun l => x1 (ix2 b ⟨5120 + l.val, by omega⟩))
          (fun k j => x3 (ix2 k j)) (fun j c => x4 (ix2 j c)) c := by
  pointwise [val_main_v34, val_main_v33, val_main_v32, val_main_v31, val_main_v6, val_main_v0, ref_hidden]
  simp only [ref_modulated]
  rfl

/-- THE REFERENCE'S RESULT at token `t` of batch `b`, feature `c`, is the layer's. -/
theorem ref_apply (b : Fin 4) (t : Fin 4096) (c : Fin 1024) :
    val_main_v47 x0 x1 x2 x3 x4 x5 (ix3 b t c)
      = layer (fun b t l => x0 (ix3 b t l)) (fun b l => x1 (ix2 b l)) (fun l => x2 (ix1 l)) (fun k j => x3 (ix2 k j))
          (fun j c => x4 (ix2 j c)) (fun l => x5 (ix1 l)) b t c := by
  pointwise [val_main_v47, val_main_v46, val_main_v45, val_main_v44, val_main_v43, val_main_v42, val_main_v41,
    val_main_v40, val_main_v39, val_main_v38, val_main_v37, val_main_v36, val_main_v35, val_main_cst_3, val_main_cst_4,
    val_main_cst_5, ref_residual]
  rfl

end Cert.Ffn

end
-- ==== Proof.FfnValue.lean ====
/-
  The call `ffn_final`'s result array after the run: the layer's row at every token (Proof/FfnBody.lean).
-/
module

public import proofs.«01_k».proof.Proof.Gen.Kernel2Ideal.Value
public import proofs.«01_k».proof.Proof.FfnReference
public import Idealize.ShloMosaic.Lib.Pipeline.ValueKit
public import Idealize.ShloMosaic.Lib.Claim

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

/-- An index of an array with a leading axis of extent 1. -/
theorem eq_unit {n k : Nat} (x : (⟨3, ![1, n, k]⟩ : Shape).Idx) : x = ix3 0 (x 1) (x 2) :=
  (eq_ix3 x).trans (congrArg (fun a : Fin 1 => ix3 a (x 1) (x 2)) (Subsingleton.elim _ _))

/-- What the body leaves in the result's buffer, from the six input blocks, at row `r` and feature `c` of the block. -/
theorem out_apply (x0 : Vec Ideal S1x1024x1024 .f32) (x1 : Vec Ideal S1x6x1024 .f32) (x2 : Vec Ideal S1x1024 .f32)
    (x3 : Vec Ideal S1024x5632 .bf16) (x4 : Vec Ideal S2816x1024 .bf16) (x5 : Vec Ideal S1x1024 .f32)
    (r : Fin 1024) (c : Fin 1024) :
    out0_6 x0 x1 x2 x3 x4 x5 (ix3 0 r c)
      = normed (residual (fun l => x0 (ix3 0 r l)) (fun l => x2 (ix2 0 l)) (fun l => x1 (ix3 0 4 l))
          (fun l => x1 (ix3 0 3 l)) (fun l => x1 (ix3 0 5 l)) (fun k j => x3 (ix2 k j)) (fun j c => x4 (ix2 j c)))
          (fun l => x5 (ix2 0 l)) c := by
  have piece (q : Nat) (inb) (r' : Fin 256) (c' : Fin 1024) (h : (r : Nat) = q + r') (hc : (c : Nat) = c') :
      chain (View.ld x0 (Rect.unit (s := S1x1024x1024) ![0, q, 0] S1x256x1024.size inb)) (View.ld x2 r0_1) (View.ld x1 r0_2)
        (View.ld x1 r0_3) (View.ld x1 r0_13) (View.ld x5 r0_1) (View.ld x3 r0_4) (View.ld x3 r0_5) (View.ld x4 r0_6)
        (View.ld x3 r0_7) (View.ld x3 r0_8) (View.ld x4 r0_9) (View.ld x3 r0_10) (View.ld x3 r0_11) (View.ld x4 r0_12)
        (ix3 0 r' c')
      = normed (residual (fun l => x0 (ix3 0 r l)) (fun l => x2 (ix2 0 l)) (fun l => x1 (ix3 0 4 l))
          (fun l => x1 (ix3 0 3 l)) (fun l => x1 (ix3 0 5 l)) (fun k j => x3 (ix2 k j)) (fun j c => x4 (ix2 j c)))
          (fun l => x5 (ix2 0 l)) c := by
    have hr (l : Fin 1024) : View.ld x0 (Rect.unit (s := S1x1024x1024) ![0, q, 0] S1x256x1024.size inb) (ix3 0 r' l)
        = x0 (ix3 0 r l) := View.ld_unit_apply_of _ _ _ _ _ _ (by intro a; fin_cases a <;> simp [h])
    obtain rfl : c = c' := Fin.ext hc
    refine (chain_apply _ _ _ _ _ _ _ _ _ _ _ _ _ _ _ (fun k j => x3 (ix2 k j)) (fun j c => x4 (ix2 j c))
      ?_ ?_ ?_ ?_ ?_ ?_ ?_ ?_ ?_ r' c).trans ?_
    iterate 9
      intro k j
      exact View.ld_unit_apply_of _ _ _ _ _ _ (by intro a; fin_cases a <;> simp <;> omega)
    · have h5 (l : Fin 1024) : View.ld x5 r0_1 (ix2 0 l) = x5 (ix2 0 l) :=
        View.ld_unit_apply_of _ _ _ _ _ _ (by intro a; fin_cases a <;> simp)
      have h2 (l : Fin 1024) : View.ld x2 r0_1 (ix2 0 l) = x2 (ix2 0 l) :=
        View.ld_unit_apply_of _ _ _ _ _ _ (by intro a; fin_cases a <;> simp)
      have h13 (l : Fin 1024) : View.ld x1 r0_2 (ix3 0 0 l) = x1 (ix3 0 3 l) :=
        View.ld_unit_apply_of _ _ _ _ _ _ (by intro a; fin_cases a <;> simp)
      have h14 (l : Fin 1024) : View.ld x1 r0_3 (ix3 0 0 l) = x1 (ix3 0 4 l) :=
        View.ld_unit_apply_of _ _ _ _ _ _ (by intro a; fin_cases a <;> simp)
      have h15 (l : Fin 1024) : View.ld x1 r0_13 (ix3 0 0 l) = x1 (ix3 0 5 l) :=
        View.ld_unit_apply_of _ _ _ _ _ _ (by intro a; fin_cases a <;> simp)
      simp only [hr, h5, h2, h13, h14, h15]
  unfold out0_6
  canon_tiles x h
  all_goals
    rw [eq_unit x]
  · exact piece 768 _ (x 1) (x 2) h1 h2
  · exact piece 512 _ (x 1) (x 2) h1 h2
  · exact piece 256 _ (x 1) (x 2) h1 h2
  · exact piece 0 _ (x 1) (x 2) (h1.trans (Nat.zero_add _).symm) h2

/-- Which block each window shows at a step of the pipeline. -/
theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0] ∧ win0_5.index t = ![0, 0]
    ∧ win0_6.index t = ![t.val / 4, t.val % 4, 0] ∧ t.val / 4 < 4 :=
  (by decide +kernel : ∀ t : Fin grid0.N, _)

variable (m : (ℓ : Loc nD τ sig) → Buf (Elt Ideal) ℓ)

/-- WHAT POINT `t` LEAVES at row `r`, feature `k` of its block is the reference's result where the block puts it. -/
theorem point (c : Dev nD) (t : Fin cfg0.N) (r k : Fin 1024) :
    out0_6 (iblk m c 0 t) (iblk m c 1 t) (iblk m c 2 t) (iblk m c 3 t) (iblk m c 4 t) (iblk m c 5 t) (ix3 0 r k)
      = Cert.Reference2Ideal.Read.val_main_v47 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) ((win0_6.blk t).view.emb (ix3 0 r k : S1x1024x1024.Idx)) := by
  obtain ⟨e0, e1, e2, e3, e4, e5, e6, hb⟩ := idx t
  have hlt : t.val % 4 * 1024 + r.val < 4096 := by omega
  have he : (win0_6.blk t).view.emb (ix3 0 r k : S1x1024x1024.Idx) = ix3 ⟨t.val / 4, hb⟩ ⟨t.val % 4 * 1024 + r.val, hlt⟩ k := by
    blk_ext [idx t]
  refine (out_apply _ _ _ _ _ _ r k).trans (Eq.trans ?_ ((congrArg _ he).trans (ref_apply _ _ _ _ _ _ _ _ _)).symm)
  have r0 (l : Fin 1024) : iblk m c 0 t (ix3 0 r l) = m ((c : Thread nD τ).loc main_arg0) (ix3 ⟨t.val / 4, hb⟩ ⟨t.val % 4 * 1024 + r.val, hlt⟩ l) := by
    blk_ext [iblk, V, idx t]
  have r1 (s : Fin 6) (l : Fin 1024) : iblk m c 1 t (ix3 0 s l) = m ((c : Thread nD τ).loc main_arg1) (ix2 ⟨t.val / 4, hb⟩ ⟨s.val * 1024 + l.val, by omega⟩) := by
    blk_ext! [iblk, V, idx t]
  have r2 (l : Fin 1024) : iblk m c 2 t (ix2 0 l) = m ((c : Thread nD τ).loc main_arg2) (ix1 l) := by
    blk_ext! [iblk, V, idx t]
  have r3 (k : Fin 1024) (j : Fin 5632) : iblk m c 3 t (ix2 k j) = m ((c : Thread nD τ).loc main_arg3) (ix2 k j) := by
    blk_ext! [iblk, V, idx t]
  have r4 (j : Fin 2816) (k : Fin 1024) : iblk m c 4 t (ix2 j k) = m ((c : Thread nD τ).loc main_arg4) (ix2 j k) := by
    blk_ext! [iblk, V, idx t]
  have r5 (l : Fin 1024) : iblk m c 5 t (ix2 0 l) = m ((c : Thread nD τ).loc main_arg5) (ix1 l) := by
    blk_ext! [iblk, V, idx t]
  simp only [r0, r1, r2, r3, r4, r5]
  rfl

/-- THE RESULT ARRAY AFTER THE RUN is the reference's result of the same arguments. -/
theorem final (c : Dev nD) : (dats m 0 c).arrAt 6 (cfgs 0).N
    = Cert.Reference2Ideal.Read.val_main_v47 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]
  exact (congrArg _ (eq_unit y)).trans ((point m c t (y 1) (y 2)).trans (congrArg _ (congrArg _ (eq_unit y).symm)))

end Cert.Ffn

end
-- ==== Proof.FfnClaims.lean ====
/-
  The claims about the call `ffn_final` (the programs Kernel2, Kernel2Ideal and Reference2Ideal).
-/
module

public import proofs.«01_k».proof.Defs
public import proofs.«01_k».proof.Proof.Gen.Kernel2.Frame
public import proofs.«01_k».proof.Proof.FfnValue
public import Idealize.ShloMosaic.Lib.Quiescent

@[expose] public section

noncomputable section

namespace Cert.Ffn

open Idealize.ShloMosaic Idealize.ShloMosaic.TcCoe Idealize.SL.Sem

/-- The call as written runs to the end, leaves its arguments as they were and every semaphore at zero. -/
theorem frame_kernel : Cert.quiescent_Kernel2 := fun m ρ _ => Cert.Kernel2.Gen.frame m ρ

/-- So does its reading over the extended reals. -/
theorem frame_ideal : Cert.quiescent_Kernel2Ideal := fun m ρ _ => Cert.Kernel2Ideal.Gen.frame m ρ

/-- So does the reference, which has no semaphore at all. -/
theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- THE CALL COMPUTES THE LAYER: over the extended reals, from the same arguments, the call and the reference end with
    the same result array, whatever the arguments hold. -/
theorem algebraic : Cert.algebraic_Kernel2Ideal_Reference2Ideal := by
  intro m ρ m' ρ' _ hag
  refine ⟨fun c => (Cert.Kernel2Ideal.Gen.dats m 0 c).arrAt 6 Cert.Kernel2Ideal.cfg0.N, Cert.Kernel2Ideal.Value.run_blocks m ρ,
    (θ_run Cert.Reference2Ideal.defs _ _).mono (fun _ h c => ⟨(h c).1.trans ?_, (h c).2⟩)
      (Cert.Reference2Ideal.Value.run (F := Ideal) m' ρ')⟩
  obtain ⟨h0, h1, h2, h3, h4, h5⟩ := hag c
  rw [Cert.Reference2Ideal.Read.val_main_v47_eq, h0, h1, h2, h3, h4, h5]
  exact (final m c).symm

end Cert.Ffn

end
-- ==== Proof.FirstFfnValue.lean ====
/-
  The call `ffn` of the first layer: the same chain as the call `ffn_final`'s (Proof/FfnBody.lean) without the last
  normalisation. Its payloads, its reference, and its result array after the run.
-/
module

public import proofs.«01_k».proof.Proof.Gen.Kernel3Ideal.Value
public import proofs.«01_k».proof.Proof.Gen.Reference3Ideal.Read
public import proofs.«01_k».proof.Proof.FfnBody
public import Idealize.ShloMosaic.Lib.Pipeline.ValueKit
public import Idealize.ShloMosaic.Lib.Claim

@[expose] public section

set_option maxRecDepth 16384

noncomputable section

namespace Cert.FirstFfn

open Idealize.ShloMosaic Idealize.ShloMosaic.TcCoe Idealize.SL.Sem
open Idealize.ShloMosaic.Pipeline (Dat)
open Cert.Ffn (modulated residual hidden gated proj sum_three hrow)

/-! ## The reference -/

section Reference

open Cert.Reference3Ideal Cert.Reference3Ideal.Read

variable (x0 : Vec Ideal S4x4096x1024 .f32) (x1 : Vec Ideal S4x6144 .f32) (x2 : Vec Ideal S1024 .f32)
  (x3 : Vec Ideal S1024x5632 .f32) (x4 : Vec Ideal S2816x1024 .f32)

theorem ref_modulated (b : Fin 4) (t : Fin 4096) (k : Fin 1024) :
    val_main_v25 x0 x1 x2 (ix3 b t k)
      = modulated (fun l => x0 (ix3 b t l)) (fun l => x2 (ix1 l)) (fun l => x1 (ix2 b ⟨4096 + l.val, by omega⟩))
          (fun l => x1 (ix2 b ⟨3072 + l.val, by omega⟩)) k := by
  pointwise [val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v5, val_main_v4, val_main_v0, val_main_cst,
    val_main_cst_0, val_main_cst_1, val_main_cst_2]
  rfl

theorem ref_hidden (b : Fin 4) (t : Fin 4096) (j : Fin 2816) :
    val_main_v30 x0 x1 x2 x3 (ix3 b t j)
      = hidden (fun k => val_main_v25 x0 x1 x2 (ix3 b t k)) (fun k j => x3 (ix2 k j)) j := by
  have hp (j : Fin 5632) : val_main_v26 x0 x1 x2 x3 (ix3 b t j)
      = proj (fun k => val_main_v25 x0 x1 x2 (ix3 b t k)) fun k => x3 (ix2 k j) := by
    pointwise [val_main_v26]
    rfl
  pointwise [val_main_v30, val_main_v29, val_main_call0_v5, val_main_call0_v4, val_main_call0_v3, val_main_call0_v2,
    val_main_call0_v1, val_main_call0_v0, val_main_call0_cst, val_main_call0_cst_0, val_main_v28, val_main_v27, hp]
  rw [Ffn.hidden, Ffn.gated, zero_sub]

/-- THE REFERENCE'S RESULT at token `t` of batch `b`, feature `c`: the residual of the layer's row. -/
theorem ref_apply (b : Fin 4) (t : Fin 4096) (c : Fin 1024) :
    val_main_v34 x0 x1 x2 x3 x4 (ix3 b t c)
      = residual (fun l => x0 (ix3 b t l)) (fun l => x2 (ix1 l)) (fun l => x1 (ix2 b ⟨4096 + l.val, by omega⟩))
          (fun l => x1 (ix2 b ⟨3072 + l.val, by omega⟩)) (fun l => x1 (ix2 b ⟨5120 + l.val, by omega⟩))
          (fun k j => x3 (ix2 k j)) (fun j c => x4 (ix2 j c)) c := by
  pointwise [val_main_v34, val_main_v33, val_main_v32, val_main_v31, val_main_v6, val_main_v0, ref_hidden]
  simp only [ref_modulated]
  rfl

end Reference

/-! ## The body's chain -/

open Cert.Kernel3Ideal Cert.Kernel3Ideal.Gen

section Chain

variable (X : Vec Ideal S1x256x1024 .f32) (g : Vec Ideal S1x1024 .f32) (sh sc gt : Vec Ideal S1x1x1024 .f32)

/-- The third chunk added, and the residual. -/
theorem last_apply (x y : FVec Ideal S256x1024 .f32) (a u : FVec Ideal S256x768 .f32) (z : EReal)
    (w : Vec Ideal S768x1024 .bf16) (r : Fin 256) (c : Fin 1024) :
    k0_pay10 x y a u z w gt (ix3 0 r c)
      = x (ix2 r c) + gt (ix3 0 0 c) * (y (ix2 r c)
          + ∑ j : Fin 768, a (ix2 r j) * Ideal.div 1 (1 + Ideal.exp (z - a (ix2 r j))) * u (ix2 r j) * w (ix2 j c)) := by
  pointwise [k0_pay10]

/-- The whole chain of the first sub-block, from the loads it reads. -/
abbrev chain (g0 u0 d0 g1 u1 d1 : Vec Ideal S1024x1024 .bf16) (g2 u2 : Vec Ideal S1024x768 .bf16)
    (d2 : Vec Ideal S768x1024 .bf16) : FVec Ideal S1x256x1024 .f32 :=
  k0_pay10 (F := Ideal) (k0_pay2 (F := Ideal) X) (k0_pay7 (F := Ideal) (k0_pay3 (F := Ideal) X g sh sc)
    (k0_pay4 (F := Ideal) X g sh sc g0) (k0_pay5 (F := Ideal) X g sh sc u0) (k0_pay6 (F := Ideal) X g sh sc g0)
    d0 g1 u1 d1) (k0_pay8 (F := Ideal) (k0_pay3 (F := Ideal) X g sh sc) g2)
    (k0_pay9 (F := Ideal) (k0_pay3 (F := Ideal) X g sh sc) u2) (Scalar.ofBits .f32 0x00000000#32) d2 gt

/-- THE CHAIN AT AN INDEX: the loads being the columns and rows of the two weight arrays that the chunks are cut at, the
    chain computes the row's residual. -/
theorem chain_apply (g0 u0 d0 g1 u1 d1 : Vec Ideal S1024x1024 .bf16)
    (g2 u2 : Vec Ideal S1024x768 .bf16) (d2 : Vec Ideal S768x1024 .bf16)
    (win : Fin 1024 → Fin 5632 → EReal) (wout : Fin 2816 → Fin 1024 → EReal)
    (hg0 : ∀ (k j : Fin 1024), g0 (ix2 k j) = win k ⟨j.val, by omega⟩)
    (hu0 : ∀ (k j : Fin 1024), u0 (ix2 k j) = win k ⟨2816 + j.val, by omega⟩)
    (hd0 : ∀ (j c : Fin 1024), d0 (ix2 j c) = wout ⟨j.val, by omega⟩ c)
    (hg1 : ∀ (k j : Fin 1024), g1 (ix2 k j) = win k ⟨1024 + j.val, by omega⟩)
    (hu1 : ∀ (k j : Fin 1024), u1 (ix2 k j) = win k ⟨2816 + (1024 + j.val), by omega⟩)
    (hd1 : ∀ (j c : Fin 1024), d1 (ix2 j c) = wout ⟨1024 + j.val, by omega⟩ c)
    (hg2 : ∀ (k : Fin 1024) (j : Fin 768), g2 (ix2 k j) = win k ⟨2048 + j.val, by omega⟩)
    (hu2 : ∀ (k : Fin 1024) (j : Fin 768), u2 (ix2 k j) = win k ⟨2816 + (2048 + j.val), by omega⟩)
    (hd2 : ∀ (j : Fin 768) (c : Fin 1024), d2 (ix2 j c) = wout ⟨2048 + j.val, by omega⟩ c)
    (r : Fin 256) (c : Fin 1024) :
    chain X g sh sc gt g0 u0 d0 g1 u1 d1 g2 u2 d2 (ix3 0 r c)
      = residual (fun l => X (ix3 0 r l)) (fun l => g (ix2 0 l)) (fun l => sc (ix3 0 0 l)) (fun l => sh (ix3 0 0 l))
          (fun l => gt (ix3 0 0 l)) win wout c := by
  have hx (c : Fin 1024) : k0_pay2 X (ix2 r c) = X (ix3 0 r c) := by pointwise [k0_pay2]
  have hz : (Scalar.ofBits (F := Ideal) .f32 0x00000000#32 : EReal) = 0 := Ideal.ofBits_zero_f32
  have h3 (r : Fin 256) (k : Fin 1024) : k0_pay3 X g sh sc (ix2 r k) = hrow X g sh sc r k := Ffn.norm_apply X g sh sc r k
  have h4 (w : Vec Ideal S1024x1024 .bf16) (j : Fin 1024) : k0_pay4 X g sh sc w (ix2 r j)
      = proj (hrow X g sh sc r) fun k => w (ix2 k j) := Ffn.gate0_apply X g sh sc w r j
  have h5 (w : Vec Ideal S1024x1024 .bf16) (j : Fin 1024) : k0_pay5 X g sh sc w (ix2 r j)
      = proj (hrow X g sh sc r) fun k => w (ix2 k j) := Ffn.up0_apply X g sh sc w r j
  have h6 (w : Vec Ideal S1024x1024 .bf16) (j : Fin 1024) : k0_pay6 X g sh sc w (ix2 r j)
      = Ideal.exp (0 - proj (hrow X g sh sc r) fun k => w (ix2 k j)) := Ffn.exp0_apply X g sh sc w r j
  have h8 (h : FVec Ideal S256x1024 .bf16) (w : Vec Ideal S1024x768 .bf16) (j : Fin 768) : k0_pay8 h w (ix2 r j)
      = proj (fun k => h (ix2 r k)) fun k => w (ix2 k j) := Ffn.gate2_apply h w r j
  have h9 (h : FVec Ideal S256x1024 .bf16) (w : Vec Ideal S1024x768 .bf16) (j : Fin 768) : k0_pay9 h w (ix2 r j)
      = proj (fun k => h (ix2 r k)) fun k => w (ix2 k j) := Ffn.up2_apply h w r j
  have h7 (h : FVec Ideal S256x1024 .bf16) (a u e : FVec Ideal S256x1024 .f32)
      (w0 wg wu w1 : Vec Ideal S1024x1024 .bf16) : k0_pay7 h a u e w0 wg wu w1 (ix2 r c)
        = ∑ j : Fin 1024, a (ix2 r j) * Ideal.div 1 (1 + e (ix2 r j)) * u (ix2 r j) * w0 (ix2 j c)
          + ∑ j : Fin 1024, gated (proj (fun k => h (ix2 r k)) fun k => wg (ix2 k j))
              (proj (fun k => h (ix2 r k)) fun k => wu (ix2 k j)) * w1 (ix2 j c) := Ffn.two_apply h a u e w0 wg wu w1 r c
  rw [chain, last_apply, Ffn.residual, sum_three, h7, hx]
  simp only [h3, h4, h5, h6, h8, h9, hz, hg0, hu0, hd0, hg1, hu1, hd1, hg2, hu2, hd2]
  rfl

end Chain

/-! ## The result array after the run -/

/-- An index of an array with a leading axis of extent 1. -/
theorem eq_unit {n k : Nat} (x : (⟨3, ![1, n, k]⟩ : Shape).Idx) : x = ix3 0 (x 1) (x 2) :=
  (eq_ix3 x).trans (congrArg (fun a : Fin 1 => ix3 a (x 1) (x 2)) (Subsingleton.elim _ _))

/-- What the body leaves in the result's buffer, from the six input blocks, at row `r` and feature `c` of the block. -/
theorem out_apply (x0 : Vec Ideal S1x1024x1024 .f32) (x1 : Vec Ideal S1x6x1024 .f32) (x2 : Vec Ideal S1x1024 .f32)
    (x3 : Vec Ideal S1024x5632 .bf16) (x4 : Vec Ideal S2816x1024 .bf16) (x5 : Vec Ideal S1x1024 .f32)
    (r : Fin 1024) (c : Fin 1024) :
    out0_6 x0 x1 x2 x3 x4 x5 (ix3 0 r c)
      = residual (fun l => x0 (ix3 0 r l)) (fun l => x2 (ix2 0 l)) (fun l => x1 (ix3 0 4 l))
          (fun l => x1 (ix3 0 3 l)) (fun l => x1 (ix3 0 5 l)) (fun k j => x3 (ix2 k j)) (fun j c => x4 (ix2 j c)) c := by
  have piece (q : Nat) (inb) (r' : Fin 256) (c' : Fin 1024) (h : (r : Nat) = q + r') (hc : (c : Nat) = c') :
      chain (View.ld x0 (Rect.unit (s := S1x1024x1024) ![0, q, 0] S1x256x1024.size inb)) (View.ld x2 r0_1) (View.ld x1 r0_2)
        (View.ld x1 r0_3) (View.ld x1 r0_13) (View.ld x3 r0_4) (View.ld x3 r0_5) (View.ld x4 r0_6)
        (View.ld x3 r0_7) (View.ld x3 r0_8) (View.ld x4 r0_9) (View.ld x3 r0_10) (View.ld x3 r0_11) (View.ld x4 r0_12)
        (ix3 0 r' c')
      = residual (fun l => x0 (ix3 0 r l)) (fun l => x2 (ix2 0 l)) (fun l => x1 (ix3 0 4 l))
          (fun l => x1 (ix3 0 3 l)) (fun l => x1 (ix3 0 5 l)) (fun k j => x3 (ix2 k j)) (fun j c => x4 (ix2 j c)) c := by
    have hr (l : Fin 1024) : View.ld x0 (Rect.unit (s := S1x1024x1024) ![0, q, 0] S1x256x1024.size inb) (ix3 0 r' l)
        = x0 (ix3 0 r l) := View.ld_unit_apply_of _ _ _ _ _ _ (by intro a; fin_cases a <;> simp [h])
    obtain rfl : c = c' := Fin.ext hc
    refine (chain_apply _ _ _ _ _ _ _ _ _ _ _ _ _ _ (fun k j => x3 (ix2 k j)) (fun j c => x4 (ix2 j c))
      ?_ ?_ ?_ ?_ ?_ ?_ ?_ ?_ ?_ r' c).trans ?_
    iterate 9
      intro k j
      exact View.ld_unit_apply_of _ _ _ _ _ _ (by intro a; fin_cases a <;> simp <;> omega)
    · have h2 (l : Fin 1024) : View.ld x2 r0_1 (ix2 0 l) = x2 (ix2 0 l) :=
        View.ld_unit_apply_of _ _ _ _ _ _ (by intro a; fin_cases a <;> simp)
      have h13 (l : Fin 1024) : View.ld x1 r0_2 (ix3 0 0 l) = x1 (ix3 0 3 l) :=
        View.ld_unit_apply_of _ _ _ _ _ _ (by intro a; fin_cases a <;> simp)
      have h14 (l : Fin 1024) : View.ld x1 r0_3 (ix3 0 0 l) = x1 (ix3 0 4 l) :=
        View.ld_unit_apply_of _ _ _ _ _ _ (by intro a; fin_cases a <;> simp)
      have h15 (l : Fin 1024) : View.ld x1 r0_13 (ix3 0 0 l) = x1 (ix3 0 5 l) :=
        View.ld_unit_apply_of _ _ _ _ _ _ (by intro a; fin_cases a <;> simp)
      simp only [hr, h2, h13, h14, h15]
  unfold out0_6
  canon_tiles x h
  all_goals
    rw [eq_unit x]
  · exact piece 768 _ (x 1) (x 2) h1 h2
  · exact piece 512 _ (x 1) (x 2) h1 h2
  · exact piece 256 _ (x 1) (x 2) h1 h2
  · exact piece 0 _ (x 1) (x 2) (h1.trans (Nat.zero_add _).symm) h2

/-- Which block each window shows at a step of the pipeline. -/
theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0]
    ∧ win0_6.index t = ![t.val / 4, t.val % 4, 0] ∧ t.val / 4 < 4 :=
  (by decide +kernel : ∀ t : Fin grid0.N, _)

variable (m : (ℓ : Loc nD τ sig) → Buf (Elt Ideal) ℓ)

/-- WHAT POINT `t` LEAVES at row `r`, feature `k` of its block is the reference's result where the block puts it. -/
theorem point (c : Dev nD) (t : Fin cfg0.N) (r k : Fin 1024) :
    out0_6 (iblk m c 0 t) (iblk m c 1 t) (iblk m c 2 t) (iblk m c 3 t) (iblk m c 4 t) (iblk m c 5 t) (ix3 0 r k)
      = Cert.Reference3Ideal.Read.val_main_v34 (m ((c : Thread nD τ).loc main_arg0)) (m ((c : Thread nD τ).loc main_arg1))
        (m ((c : Thread nD τ).loc main_arg2)) (m ((c : Thread nD τ).loc main_arg3)) (m ((c : Thread nD τ).loc main_arg4))
        ((win0_6.blk t).view.emb (ix3 0 r k : S1x1024x1024.Idx)) := by
  obtain ⟨e0, e1, e2, e3, e4, e6, hb⟩ := idx t
  have hlt : t.val % 4 * 1024 + r.val < 4096 := by omega
  have he : (win0_6.blk t).view.emb (ix3 0 r k : S1x1024x1024.Idx) = ix3 ⟨t.val / 4, hb⟩ ⟨t.val % 4 * 1024 + r.val, hlt⟩ k := by
    blk_ext [idx t]
  refine (out_apply _ _ _ _ _ _ r k).trans (Eq.trans ?_ ((congrArg _ he).trans (ref_apply _ _ _ _ _ _ _ _)).symm)
  have r0 (l : Fin 1024) : iblk m c 0 t (ix3 0 r l) = m ((c : Thread nD τ).loc main_arg0) (ix3 ⟨t.val / 4, hb⟩ ⟨t.val % 4 * 1024 + r.val, hlt⟩ l) := by
    blk_ext [iblk, V, idx t]
  have r1 (s : Fin 6) (l : Fin 1024) : iblk m c 1 t (ix3 0 s l) = m ((c : Thread nD τ).loc main_arg1) (ix2 ⟨t.val / 4, hb⟩ ⟨s.val * 1024 + l.val, by omega⟩) := by
    blk_ext! [iblk, V, idx t]
  have r2 (l : Fin 1024) : iblk m c 2 t (ix2 0 l) = m ((c : Thread nD τ).loc main_arg2) (ix1 l) := by
    blk_ext! [iblk, V, idx t]
  have r3 (k : Fin 1024) (j : Fin 5632) : iblk m c 3 t (ix2 k j) = m ((c : Thread nD τ).loc main_arg3) (ix2 k j) := by
    blk_ext! [iblk, V, idx t]
  have r4 (j : Fin 2816) (k : Fin 1024) : iblk m c 4 t (ix2 j k) = m ((c : Thread nD τ).loc main_arg4) (ix2 j k) := by
    blk_ext! [iblk, V, idx t]
  simp only [r0, r1, r2, r3, r4]
  rfl

/-- THE RESULT ARRAY AFTER THE RUN is the reference's result of the same arguments. -/
theorem final (c : Dev nD) : (dats m 0 c).arrAt 6 (cfgs 0).N
    = Cert.Reference3Ideal.Read.val_main_v34 (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact (congrArg _ (eq_unit y)).trans ((point m c t (y 1) (y 2)).trans (congrArg _ (congrArg _ (eq_unit y).symm)))

end Cert.FirstFfn

end
-- ==== Proof.FirstFfnClaims.lean ====
/-
  The claims about the call `ffn` of the first layer (the programs Kernel3, Kernel3Ideal and Reference3Ideal).
-/
module

public import proofs.«01_k».proof.Defs
public import proofs.«01_k».proof.Proof.Gen.Kernel3.Frame
public import proofs.«01_k».proof.Proof.FirstFfnValue
public import Idealize.ShloMosaic.Lib.Quiescent

@[expose] public section

noncomputable section

namespace Cert.FirstFfn

open Idealize.ShloMosaic Idealize.ShloMosaic.TcCoe Idealize.SL.Sem

/-- The call as written runs to the end, leaves its arguments as they were and every semaphore at zero. -/
theorem frame_kernel : Cert.quiescent_Kernel3 := fun m ρ _ => Cert.Kernel3.Gen.frame m ρ

/-- So does its reading over the extended reals. -/
theorem frame_ideal : Cert.quiescent_Kernel3Ideal := fun m ρ _ => Cert.Kernel3Ideal.Gen.frame m ρ

/-- So does the reference, which has no semaphore at all. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- THE CALL COMPUTES THE LAYER: over the extended reals, from the same arguments, the call and the reference end with
    the same result array, whatever the arguments hold. -/
theorem algebraic : Cert.algebraic_Kernel3Ideal_Reference3Ideal := by
  intro m ρ m' ρ' _ hag
  refine ⟨fun c => (Cert.Kernel3Ideal.Gen.dats m 0 c).arrAt 6 Cert.Kernel3Ideal.cfg0.N, Cert.Kernel3Ideal.Value.run_blocks m ρ,
    (θ_run Cert.Reference3Ideal.defs _ _).mono (fun _ h c => ⟨(h c).1.trans ?_, (h c).2⟩)
      (Cert.Reference3Ideal.Value.run (F := Ideal) m' ρ')⟩
  obtain ⟨h0, h1, h2, h3, h4, -⟩ := hag c
  rw [Cert.Reference3Ideal.Read.val_main_v34_eq, h0, h1, h2, h3, h4]
  exact (final m c).symm

end Cert.FirstFfn

end
-- ==== Proof.MergeBody.lean ====
/-
  The merge of the three branches, one row of tokens at a time, and the body of the call `merge_out` read as it.

  The definitions name, for one token, what the layer computes of its rows over the extended reals: the modulated row and
  the three gates of it, the linear attention's row normalised head by head and gated, the three branches brought to the
  1024 features, mixed, and brought back to the residual stream. The body works on two sub-blocks of 512 rows, each by
  the same chain of operations; `chain_apply` reads that chain at one index.
-/
module

public import proofs.«01_k».proof.Proof.Gen.Kernel4Ideal.Skeleton
public import proofs.«01_k».proof.Proof.FfnBody
public import Idealize.ShloMosaic.Lib.Pointwise

@[expose] public section

set_option maxRecDepth 16384

noncomputable section

namespace Cert.Merge

open Idealize.ShloMosaic
open Cert.Ffn (modulated hrow)

/-! ## The layer, one row -/

/-- `1 / (1 + e^(-z))`. -/
def logistic (z : EReal) : EReal := Ideal.div 1 (1 + Ideal.exp (0 - z))

/-- One head of 128 values normalised by its root mean square and scaled by `g`. -/
def headNormed (o g : Fin 128 → EReal) (l : Fin 128) : EReal :=
  o l * Ideal.rsqrt (Ideal.div (∑ k : Fin 128, o k * o k) (Ideal.ofBits .f32 0x43000000#32)
    + Ideal.ofBits .f32 0x358637BD#32) * g l

/-- The linear attention's row: its four heads normalised each for itself, times `z / (1 + e^(-z))` of the gate row. -/
def gatedHeads (o : Fin 512 → EReal) (g : Fin 128 → EReal) (r : Fin 512 → EReal) (j : Fin 512) : EReal :=
  headNormed (fun k => o ⟨j.val / 128 * 128 + k.val, by omega⟩) g ⟨j.val % 128, by omega⟩ * (r j * logistic (r j))

/-- A row against one column. -/
def dot {n : Nat} (h w : Fin n → EReal) : EReal := ∑ k : Fin n, h k * w k

/-- The gate of column `j` of the merge projection. -/
def gate (h : Fin 1024 → EReal) (wm : Fin 1024 → Fin 3072 → EReal) (bm : Fin 3072 → EReal) (j : Fin 3072) : EReal :=
  logistic (dot h (fun k => wm k j) + bm j)

/-- The three branches' rows at feature `k`, each times its own gate. -/
def mixed (h : Fin 1024 → EReal) (wm : Fin 1024 → Fin 3072 → EReal) (bm : Fin 3072 → EReal) (a b c : Fin 1024 → EReal)
    (k : Fin 1024) : EReal :=
  gate h wm bm ⟨k.val, by omega⟩ * a k + gate h wm bm ⟨1024 + k.val, by omega⟩ * b k
    + gate h wm bm ⟨2048 + k.val, by omega⟩ * c k

/-- THE ROW AFTER THE MERGE, `a` being the first branch's row already brought to the features. -/
def merged (x g sc sh gt : Fin 1024 → EReal) (wm : Fin 1024 → Fin 3072 → EReal) (bm : Fin 3072 → EReal)
    (a : Fin 1024 → EReal) (yb yc : Fin 512 → EReal) (wb wc : Fin 512 → Fin 1024 → EReal)
    (wo : Fin 1024 → Fin 1024 → EReal) (c : Fin 1024) : EReal :=
  x c + gt c * dot (mixed (modulated x g sc sh) wm bm a (fun k => dot yb fun j => wb j k) fun k => dot yc fun j => wc j k)
    fun k => wo k c

/-! ## The body's chain, at one index -/

open Cert.Kernel4Ideal Cert.Kernel4Ideal.Gen

section Chain

variable (X : Vec Ideal S1x512x1024 .f32) (g : Vec Ideal S1x1024 .f32) (sh sc gt : Vec Ideal S1x1x1024 .f32)

theorem norm_apply (r : Fin 512) (k : Fin 1024) :
    k0_pay4 X g sh sc (ix2 r k)
      = modulated (fun l => X (ix3 0 r l)) (fun l => g (ix2 0 l)) (fun l => sc (ix3 0 0 l)) (fun l => sh (ix3 0 0 l)) k := by
  pointwise [k0_pay4, k0_pay3]
  rfl

section Heads

variable (v1 : FVec Ideal S1x128 .f32) (o : FVec Ideal S512x512 .f32) (r : Fin 512) (l : Fin 128)

theorem head0_apply (A B : Vec Ideal S1x512x512 .f32) :
    k0_pay7 v1 (k0_pay6 A B) (ix2 r l)
      = headNormed (fun k => k0_pay5 A B (ix2 r ⟨0 + k.val, by omega⟩)) (fun k => v1 (ix2 0 k)) l := by
  pointwise [k0_pay7, k0_pay6]
  rfl

theorem head1_apply : k0_pay8 v1 o (ix2 r l)
    = headNormed (fun k => o (ix2 r ⟨128 + k.val, by omega⟩)) (fun k => v1 (ix2 0 k)) l := by
  pointwise [k0_pay8]
  rfl

theorem head2_apply : k0_pay9 v1 o (ix2 r l)
    = headNormed (fun k => o (ix2 r ⟨256 + k.val, by omega⟩)) (fun k => v1 (ix2 0 k)) l := by
  pointwise [k0_pay9]
  rfl

theorem head3_apply : k0_pay10 o (ix2 r l) * k0_pay11 o (ix2 r l) * v1 (ix2 0 l)
    = headNormed (fun k => o (ix2 r ⟨384 + k.val, by omega⟩)) (fun k => v1 (ix2 0 k)) l := by
  pointwise [k0_pay11, k0_pay10]
  rfl

end Heads

/-- A head's normalised value, the head and the place in it told from the feature. -/
theorem head_at (o : Fin 512 → EReal) (w : Fin 128 → EReal) (q : Nat) (hq : q < 4) (j : Fin 512) (l : Fin 128)
    (h : j.val = q * 128 + l.val) :
    headNormed (fun k => o ⟨q * 128 + k.val, by omega⟩) w l
      = headNormed (fun k => o ⟨j.val / 128 * 128 + k.val, by omega⟩) w ⟨j.val % 128, by omega⟩ := by
  obtain rfl : q = j.val / 128 := by omega
  exact congrArg (headNormed _ w) (Fin.ext (by show l.val = j.val % 128; omega))

/-- The body's linear attention row, the four heads side by side and gated. -/
theorem branch_apply (v1 : FVec Ideal S1x128 .f32) (A B R : Vec Ideal S1x512x512 .f32) (r j : Fin 512) :
    k0_pay12 v1 (k0_pay7 v1 (k0_pay6 A B)) (k0_pay8 v1 (k0_pay5 A B)) (k0_pay9 v1 (k0_pay5 A B)) (k0_pay10 (k0_pay5 A B))
        (k0_pay11 (k0_pay5 A B)) R (ix2 r j)
      = gatedHeads (fun j => A (ix3 0 r j) + B (ix3 0 r j)) (fun k => v1 (ix2 0 k)) (fun j => R (ix3 0 r j)) j := by
  have hs (j : Fin 512) : k0_pay5 A B (ix2 r j) = A (ix3 0 r j) + B (ix3 0 r j) := by pointwise [k0_pay5]
  have hc (a b c d e : FVec Ideal S512x128 .f32) : k0_pay12 v1 a b c d e R (ix2 r j)
      = (if h : j.val < 128 then a (ix2 r ⟨j.val, h⟩)
        else if h : j.val - 128 < 128 then b (ix2 r ⟨j.val - 128, h⟩)
        else if h : j.val - 128 - 128 < 128 then c (ix2 r ⟨j.val - 128 - 128, h⟩)
        else d (ix2 r ⟨j.val - 128 - 128 - 128, by omega⟩) * e (ix2 r ⟨j.val - 128 - 128 - 128, by omega⟩)
          * v1 (ix2 0 ⟨j.val - 128 - 128 - 128, by omega⟩))
        * (R (ix3 0 r j) * logistic (R (ix3 0 r j))) := by
    pointwise [k0_pay12]
    rfl
  rw [hc, gatedHeads]
  refine congrArg (· * (R (ix3 0 r j) * logistic (R (ix3 0 r j)))) ?_
  simp only [head0_apply, head1_apply, head2_apply, head3_apply, hs]
  split_ifs with h0 h1 h2
  · exact head_at (fun j => A (ix3 0 r j) + B (ix3 0 r j)) _ 0 (by omega) j ⟨j.val, h0⟩ (by simp)
  · exact head_at (fun j => A (ix3 0 r j) + B (ix3 0 r j)) _ 1 (by omega) j ⟨j.val - 128, h1⟩ (by simp; omega)
  · exact head_at (fun j => A (ix3 0 r j) + B (ix3 0 r j)) _ 2 (by omega) j ⟨j.val - 128 - 128, h2⟩ (by simp; omega)
  · exact head_at (fun j => A (ix3 0 r j) + B (ix3 0 r j)) _ 3 (by omega) j ⟨j.val - 128 - 128 - 128, by omega⟩
      (by simp; omega)

theorem gate_apply (h : FVec Ideal S512x1024 .bf16) (w : Vec Ideal S1024x1024 .bf16) (bm : Vec Ideal S1x1024 .f32)
    (r : Fin 512) (k : Fin 1024) :
    k0_pay14 h w bm (ix2 r k) = logistic (dot (fun l => h (ix2 r l)) (fun l => w (ix2 l k)) + bm (ix2 0 k)) := by
  pointwise [k0_pay14]
  rfl

theorem first_apply (y : Vec Ideal S1x512x512 .bf16) (w : Vec Ideal S512x1024 .bf16) (r : Fin 512) (k : Fin 1024) :
    k0_pay15 y w (ix2 r k) = dot (fun j => y (ix3 0 r j)) fun j => w (ix2 j k) := by
  pointwise [k0_pay15]
  rfl

theorem second_apply (h : FVec Ideal S512x1024 .bf16) (yb : FVec Ideal S512x512 .bf16) (ga a : FVec Ideal S512x1024 .f32)
    (w : Vec Ideal S1024x1024 .bf16) (bm : Vec Ideal S1x1024 .f32) (wb : Vec Ideal S512x1024 .bf16)
    (r : Fin 512) (k : Fin 1024) :
    k0_pay16 h yb ga a w bm wb (ix2 r k)
      = ga (ix2 r k) * a (ix2 r k) + logistic (dot (fun l => h (ix2 r l)) (fun l => w (ix2 l k)) + bm (ix2 0 k))
          * dot (fun j => yb (ix2 r j)) fun j => wb (ix2 j k) := by
  pointwise [k0_pay16]
  rfl

theorem third_apply (h : FVec Ideal S512x1024 .bf16) (yc : FVec Ideal S512x512 .bf16)
    (w : Vec Ideal S1024x1024 .bf16) (bm : Vec Ideal S1x1024 .f32) (wc : Vec Ideal S512x1024 .bf16)
    (r : Fin 512) (k : Fin 1024) :
    k0_pay17 h yc w bm wc (ix2 r k)
      = logistic (dot (fun l => h (ix2 r l)) (fun l => w (ix2 l k)) + bm (ix2 0 k))
          * dot (fun j => yc (ix2 r j)) fun j => wc (ix2 j k) := by
  pointwise [k0_pay17]
  rfl

theorem last_apply (x m t : FVec Ideal S512x1024 .f32) (wo : Vec Ideal S1024x1024 .bf16) (r : Fin 512) (c : Fin 1024) :
    k0_pay18 x m t gt wo (ix3 0 r c)
      = x (ix2 r c) + gt (ix3 0 0 c) * dot (fun k => m (ix2 r k) + t (ix2 r k)) fun k => wo (ix2 k c) := by
  pointwise [k0_pay18]
  rfl

/-- The whole chain of the first sub-block, from the loads it reads. -/
abbrev chain (A B R : Vec Ideal S1x512x512 .f32) (v0 : Vec Ideal S1x128 .f32) (ya yc : Vec Ideal S1x512x512 .bf16)
    (w0 w1 w2 : Vec Ideal S1024x1024 .bf16) (b0 b1 b2 : Vec Ideal S1x1024 .f32) (wa wb wc : Vec Ideal S512x1024 .bf16)
    (wo : Vec Ideal S1024x1024 .bf16) : FVec Ideal S1x512x1024 .f32 :=
  k0_pay18 (F := Ideal) (k0_pay3 (F := Ideal) X)
    (k0_pay16 (F := Ideal) (k0_pay4 (F := Ideal) X g sh sc)
      (k0_pay12 (F := Ideal) (k0_pay2 (F := Ideal) v0) (k0_pay7 (F := Ideal) (k0_pay2 (F := Ideal) v0) (k0_pay6 (F := Ideal) A B))
        (k0_pay8 (F := Ideal) (k0_pay2 (F := Ideal) v0) (k0_pay5 (F := Ideal) A B))
        (k0_pay9 (F := Ideal) (k0_pay2 (F := Ideal) v0) (k0_pay5 (F := Ideal) A B))
        (k0_pay10 (F := Ideal) (k0_pay5 (F := Ideal) A B)) (k0_pay11 (F := Ideal) (k0_pay5 (F := Ideal) A B)) R)
      (k0_pay14 (F := Ideal) (k0_pay4 (F := Ideal) X g sh sc) w0 b0) (k0_pay15 (F := Ideal) ya wa) w1 b1 wb)
    (k0_pay17 (F := Ideal) (k0_pay4 (F := Ideal) X g sh sc) (k0_pay13 (F := Ideal) yc) w2 b2 wc) gt wo

/-- THE CHAIN AT AN INDEX: the loads being the column blocks of the merge projection, the chain computes the row's merge. -/
theorem chain_apply (A B R : Vec Ideal S1x512x512 .f32) (v0 : Vec Ideal S1x128 .f32) (ya yc : Vec Ideal S1x512x512 .bf16)
    (w0 w1 w2 : Vec Ideal S1024x1024 .bf16) (b0 b1 b2 : Vec Ideal S1x1024 .f32) (wa wb wc : Vec Ideal S512x1024 .bf16)
    (wo : Vec Ideal S1024x1024 .bf16) (wm : Fin 1024 → Fin 3072 → EReal) (bm : Fin 3072 → EReal)
    (hw0 : ∀ (k j : Fin 1024), w0 (ix2 k j) = wm k ⟨j.val, by omega⟩)
    (hw1 : ∀ (k j : Fin 1024), w1 (ix2 k j) = wm k ⟨1024 + j.val, by omega⟩)
    (hw2 : ∀ (k j : Fin 1024), w2 (ix2 k j) = wm k ⟨2048 + j.val, by omega⟩)
    (hb0 : ∀ (j : Fin 1024), b0 (ix2 0 j) = bm ⟨j.val, by omega⟩)
    (hb1 : ∀ (j : Fin 1024), b1 (ix2 0 j) = bm ⟨1024 + j.val, by omega⟩)
    (hb2 : ∀ (j : Fin 1024), b2 (ix2 0 j) = bm ⟨2048 + j.val, by omega⟩)
    (r : Fin 512) (c : Fin 1024) :
    chain X g sh sc gt A B R v0 ya yc w0 w1 w2 b0 b1 b2 wa wb wc wo (ix3 0 r c)
      = merged (fun l => X (ix3 0 r l)) (fun l => g (ix2 0 l)) (fun l => sc (ix3 0 0 l)) (fun l => sh (ix3 0 0 l))
          (fun l => gt (ix3 0 0 l)) wm bm (fun k => dot (fun j => ya (ix3 0 r j)) fun j => wa (ix2 j k))
          (gatedHeads (fun j => A (ix3 0 r j) + B (ix3 0 r j)) (fun k => v0 (ix2 0 k)) (fun j => R (ix3 0 r j)))
          (fun j => yc (ix3 0 r j)) (fun j k => wb (ix2 j k)) (fun j k => wc (ix2 j k)) (fun k c => wo (ix2 k c)) c := by
  have hx (c : Fin 1024) : k0_pay3 X (ix2 r c) = X (ix3 0 r c) := by pointwise [k0_pay3]
  have hv (l : Fin 128) : k0_pay2 v0 (ix2 0 l) = v0 (ix2 0 l) := by pointwise [k0_pay2]
  have hy (j : Fin 512) : k0_pay13 yc (ix2 r j) = yc (ix3 0 r j) := by pointwise [k0_pay13]
  rw [chain, last_apply, merged, hx]
  simp only [second_apply, third_apply, gate_apply, first_apply, branch_apply, norm_apply, hv, hy, hw0, hw1, hw2, hb0, hb1, hb2]
  rfl

end Chain

end Cert.Merge

end
-- ==== Proof.MergeReference.lean ====
/-
  The reference `reference4`, read at one token and feature: the merged row of Proof/MergeBody.lean.
-/
module

public import proofs.«01_k».proof.Proof.Gen.Reference4Ideal.Read
public import proofs.«01_k».proof.Proof.MergeBody

@[expose] public section

set_option maxRecDepth 16384

noncomputable section

namespace Cert.Merge

open Idealize.ShloMosaic
open Cert.Ffn (modulated)

/-- Where the windowed attention's result keeps the feature that the reference calls `j`: the reference's head
    `j / 64 = 4 g + q` is the result's head `2 q + g`. -/
def place (j : Fin 512) : Fin 512 := ⟨(j.val / 64 % 4 * 2 + j.val / 64 / 4) * 64 + j.val % 64, by omega⟩

section Reference

open Cert.Reference4Ideal Cert.Reference4Ideal.Read

variable (x0 : Vec Ideal S4x4096x1024 .f32) (x1 : Vec Ideal S4x6144 .f32) (x2 : Vec Ideal S1024 .f32)
  (x3 : Vec Ideal S4x4096x512 .bf16) (x4 x5 : Vec Ideal S4x4x4096x128 .f32) (x6 : Vec Ideal S4x4096x512 .f32)
  (x7 : Vec Ideal S4x4096x512 .bf16) (x8 : Vec Ideal S128 .f32) (x9 : Vec Ideal S1024x3072 .f32) (x10 : Vec Ideal S3072 .f32)
  (x11 x12 x13 : Vec Ideal S512x1024 .f32) (x14 : Vec Ideal S1024x1024 .f32)

theorem ref_modulated (b : Fin 4) (t : Fin 4096) (k : Fin 1024) :
    val_main_v25 x0 x1 x2 (ix3 b t k)
      = modulated (fun l => x0 (ix3 b t l)) (fun l => x2 (ix1 l)) (fun l => x1 (ix2 b ⟨1024 + l.val, by omega⟩))
          (fun l => x1 (ix2 b ⟨0 + l.val, by omega⟩)) k := by
  pointwise [val_main_v25, val_main_v24, val_main_v23, val_main_v22, val_main_v21, val_main_v20, val_main_v19,
    val_main_v18, val_main_v17, val_main_v16, val_main_v15, val_main_v14, val_main_v13, val_main_v12, val_main_v11,
    val_main_v10, val_main_v9, val_main_v8, val_main_v7, val_main_v2, val_main_v1, val_main_v0, val_main_cst,
    val_main_cst_0, val_main_cst_1, val_main_cst_2]
  rfl

theorem ref_heads (b : Fin 4) (t : Fin 4096) (j : Fin 512) :
    val_main_v43 x4 x5 x6 x8 (ix3 b t j)
      = gatedHeads (fun j => x4 (ix4 b ⟨j.val / 128, by omega⟩ t ⟨j.val % 128, by omega⟩)
            + x5 (ix4 b ⟨j.val / 128, by omega⟩ t ⟨j.val % 128, by omega⟩))
          (fun l => x8 (ix1 l)) (fun j => x6 (ix3 b t j)) j := by
  pointwise [val_main_v43, val_main_v42, val_main_v41, val_main_v40, val_main_v39, val_main_v38, val_main_v37,
    val_main_v36, val_main_v35, val_main_v34, val_main_v33, val_main_v32, val_main_v31, val_main_v30, val_main_v29,
    val_main_v28, val_main_v27, val_main_v26, val_main_cst_3, val_main_cst_4, val_main_cst_5,
    val_main_call0_v5, val_main_call0_v4, val_main_call0_v3, val_main_call0_v2,
    val_main_call0_v1, val_main_call0_v0, val_main_call0_cst, val_main_call0_cst_0]
  have e1 (k : Nat) (hk : k < 128) (h) : (⟨(j.val / 128 * 128 + k) / 128, h⟩ : Fin 4) = ⟨j.val / 128, by omega⟩ :=
    Fin.ext (by show (j.val / 128 * 128 + k) / 128 = j.val / 128; omega)
  have e2 (k : Nat) (hk : k < 128) (h) : (⟨(j.val / 128 * 128 + k) % 128, h⟩ : Fin 128) = ⟨k, hk⟩ :=
    Fin.ext (by show (j.val / 128 * 128 + k) % 128 = k; omega)
  have hj : j.val % 128 < 128 := by omega
  simp only [gatedHeads, headNormed, logistic, zero_sub, e1 _ hj, e2 _ hj, fun k : Fin 128 => e1 _ k.isLt,
    fun k : Fin 128 => e2 _ k.isLt]

theorem ref_first (b : Fin 4) (t : Fin 4096) (j : Fin 512) :
    val_main_v47 x3 (ix3 b t j) = x3 (ix3 b t (place j)) := by
  pointwise [val_main_v47, val_main_v46, val_main_v45, val_main_v44]
  exact congrArg (fun p => x3 (ix3 b t p)) (Fin.ext (by
    show j.val / 64 % 4 * 128 + j.val / 256 * 64 + j.val % 64 = (j.val / 64 % 4 * 2 + j.val / 64 / 4) * 64 + j.val % 64
    omega))

theorem ref_gate (b : Fin 4) (t : Fin 4096) (j : Fin 3072) :
    val_main_v58 x0 x1 x2 x9 x10 (ix3 b t j)
      = gate (fun k => val_main_v25 x0 x1 x2 (ix3 b t k)) (fun k j => x9 (ix2 k j)) (fun j => x10 (ix1 j)) j := by
  pointwise [val_main_v58, val_main_v57, val_main_v56, val_main_v55, val_main_v54, val_main_v53, val_main_v52,
    val_main_v51, val_main_v50, val_main_v49, val_main_cst_6, val_main_cst_7]
  rw [gate, logistic, zero_sub]
  rfl

/-- THE REFERENCE'S RESULT at token `t` of batch `b`, feature `c`: the merged row. -/
theorem ref_apply (b : Fin 4) (t : Fin 4096) (c : Fin 1024) :
    val_main_v73 x0 x1 x2 x3 x4 x5 x6 x7 x8 x9 x10 x11 x12 x13 x14 (ix3 b t c)
      = merged (fun l => x0 (ix3 b t l)) (fun l => x2 (ix1 l)) (fun l => x1 (ix2 b ⟨1024 + l.val, by omega⟩))
          (fun l => x1 (ix2 b ⟨0 + l.val, by omega⟩)) (fun l => x1 (ix2 b ⟨2048 + l.val, by omega⟩))
          (fun k j => x9 (ix2 k j)) (fun j => x10 (ix1 j))
          (fun k => dot (fun j => x3 (ix3 b t (place j))) fun j => x11 (ix2 j k))
          (gatedHeads (fun j => x4 (ix4 b ⟨j.val / 128, by omega⟩ t ⟨j.val % 128, by omega⟩)
            + x5 (ix4 b ⟨j.val / 128, by omega⟩ t ⟨j.val % 128, by omega⟩)) (fun l => x8 (ix1 l)) (fun j => x6 (ix3 b t j)))
          (fun j => x7 (ix3 b t j)) (fun j k => x12 (ix2 j k)) (fun j k => x13 (ix2 j k)) (fun k c => x14 (ix2 k c)) c := by
  pointwise [val_main_v73, val_main_v72, val_main_v71, val_main_v70, val_main_v69, val_main_v68, val_main_v67,
    val_main_v66, val_main_v65, val_main_v64, val_main_v63, val_main_v62, val_main_v61, val_main_v60, val_main_v59,
    val_main_v48, val_main_v3, val_main_v0, ref_gate, ref_first, ref_heads]
  simp only [ref_modulated]
  rfl

end Reference

end Cert.Merge

end
-- ==== Proof.MergeValue.lean ====
/-
  The call `merge_out`'s result array after the run: the merged row at every token (Proof/MergeBody.lean).
-/
module

public import proofs.«01_k».proof.Proof.Gen.Kernel4Ideal.Value
public import proofs.«01_k».proof.Proof.MergeReference
public import Idealize.ShloMosaic.Lib.Pipeline.ValueKit
public import Idealize.ShloMosaic.Lib.Claim

@[expose] public section

set_option maxRecDepth 16384

noncomputable section

namespace Cert.Merge

open Idealize.ShloMosaic Idealize.ShloMosaic.TcCoe Idealize.SL.Sem
open Idealize.ShloMosaic.Pipeline (Dat)
open Cert.Kernel4Ideal Cert.Kernel4Ideal.Gen

/-- An index of an array with a leading axis of extent 1. -/
theorem eq_unit {n k : Nat} (x : (⟨3, ![1, n, k]⟩ : Shape).Idx) : x = ix3 0 (x 1) (x 2) :=
  (eq_ix3 x).trans (congrArg (fun a : Fin 1 => ix3 a (x 1) (x 2)) (Subsingleton.elim _ _))

section Out

variable (x0 : Vec Ideal S1x1024x1024 .f32) (x1 : Vec Ideal S1x6x1024 .f32) (x2 : Vec Ideal S1x1024 .f32)
  (x3 : Vec Ideal S1x1024x512 .bf16) (x4 x5 x6 : Vec Ideal S1x1024x512 .f32) (x7 : Vec Ideal S1x1024x512 .bf16)
  (x8 : Vec Ideal S1x128 .f32) (x9 : Vec Ideal S1024x3072 .bf16) (x10 : Vec Ideal S1x3072 .f32)
  (x11 x12 x13 : Vec Ideal S512x1024 .bf16) (x14 : Vec Ideal S1024x1024 .bf16)

/-- The merged row of row `r` of the input blocks. -/
abbrev row (r c : Fin 1024) : EReal :=
  merged (fun l => x0 (ix3 0 r l)) (fun l => x2 (ix2 0 l)) (fun l => x1 (ix3 0 1 l)) (fun l => x1 (ix3 0 0 l))
    (fun l => x1 (ix3 0 2 l)) (fun k j => x9 (ix2 k j)) (fun j => x10 (ix2 0 j))
    (fun k => dot (fun j => x3 (ix3 0 r j)) fun j => x11 (ix2 j k))
    (gatedHeads (fun j => x4 (ix3 0 r j) + x5 (ix3 0 r j)) (fun l => x8 (ix2 0 l)) (fun j => x6 (ix3 0 r j)))
    (fun j => x7 (ix3 0 r j)) (fun j k => x12 (ix2 j k)) (fun j k => x13 (ix2 j k)) (fun k c => x14 (ix2 k c)) c

/-- The chain over the sub-block of 512 rows from row `q` on. -/
theorem piece (q : Nat) (inb : ∀ a, (![0, q, 0] : Fin 3 → Nat) a + S1x512x1024.size a ≤ S1x1024x1024.size a)
    (inb' : ∀ a, (![0, q, 0] : Fin 3 → Nat) a + S1x512x512.size a ≤ S1x1024x512.size a)
    (r c : Fin 1024) (r' : Fin 512) (c' : Fin 1024) (h : (r : Nat) = q + r') (hc : (c : Nat) = c') :
    chain (View.ld x0 (Rect.unit (s := S1x1024x1024) ![0, q, 0] S1x512x1024.size inb)) (View.ld x2 r0_2)
        (View.ld x1 r0_3) (View.ld x1 r0_4) (View.ld x1 r0_13)
        (View.ld x4 (Rect.unit (s := S1x1024x512) ![0, q, 0] S1x512x512.size inb'))
        (View.ld x5 (Rect.unit (s := S1x1024x512) ![0, q, 0] S1x512x512.size inb'))
        (View.ld x6 (Rect.unit (s := S1x1024x512) ![0, q, 0] S1x512x512.size inb')) (View.ld x8 r0_0)
        (View.ld x3 (Rect.unit (s := S1x1024x512) ![0, q, 0] S1x512x512.size inb'))
        (View.ld x7 (Rect.unit (s := S1x1024x512) ![0, q, 0] S1x512x512.size inb'))
        (View.ld x9 r0_6) (View.ld x9 r0_9) (View.ld x9 r0_11) (View.ld x10 r0_7) (View.ld x10 r0_10) (View.ld x10 r0_12)
        (View.ld x11 r0_8) (View.ld x12 r0_8) (View.ld x13 r0_8) (View.ld x14 r0_14) (ix3 0 r' c')
      = row x0 x1 x2 x3 x4 x5 x6 x7 x8 x9 x10 x11 x12 x13 x14 r c := by
  have hr (l : Fin 1024) : View.ld x0 (Rect.unit (s := S1x1024x1024) ![0, q, 0] S1x512x1024.size inb) (ix3 0 r' l)
      = x0 (ix3 0 r l) := View.ld_unit_apply_of _ _ _ _ _ _ (by intro a; fin_cases a <;> simp [h])
  have hs {e : EltTy} (x : Vec Ideal S1x1024x512 e) (l : Fin 512) :
      View.ld x (Rect.unit (s := S1x1024x512) ![0, q, 0] S1x512x512.size inb') (ix3 0 r' l) = x (ix3 0 r l) :=
    View.ld_unit_apply_of _ _ _ _ _ _ (by intro a; fin_cases a <;> simp [h])
  obtain rfl : c = c' := Fin.ext hc
  refine (chain_apply _ _ _ _ _ _ _ _ _ _ _ _ _ _ _ _ _ _ _ _ _ (fun k j => x9 (ix2 k j)) (fun j => x10 (ix2 0 j))
    ?_ ?_ ?_ ?_ ?_ ?_ r' c).trans ?_
  iterate 3
    intro k j
    exact View.ld_unit_apply_of _ _ _ _ _ _ (by intro a; fin_cases a <;> simp)
  iterate 3
    intro j
    exact View.ld_unit_apply_of _ _ _ _ _ _ (by intro a; fin_cases a <;> simp)
  have h2 (l : Fin 1024) : View.ld x2 r0_2 (ix2 0 l) = x2 (ix2 0 l) :=
    View.ld_unit_apply_of _ _ _ _ _ _ (by intro a; fin_cases a <;> simp)
  have h10 (l : Fin 1024) : View.ld x1 r0_3 (ix3 0 0 l) = x1 (ix3 0 0 l) :=
    View.ld_unit_apply_of _ _ _ _ _ _ (by intro a; fin_cases a <;> simp)
  have h11 (l : Fin 1024) : View.ld x1 r0_4 (ix3 0 0 l) = x1 (ix3 0 1 l) :=
    View.ld_unit_apply_of _ _ _ _ _ _ (by intro a; fin_cases a <;> simp)
  have h12 (l : Fin 1024) : View.ld x1 r0_13 (ix3 0 0 l) = x1 (ix3 0 2 l) :=
    View.ld_unit_apply_of _ _ _ _ _ _ (by intro a; fin_cases a <;> simp)
  have h8 (l : Fin 128) : View.ld x8 r0_0 (ix2 0 l) = x8 (ix2 0 l) :=
    View.ld_unit_apply_of _ _ _ _ _ _ (by intro a; fin_cases a <;> simp)
  have hw (x : Vec Ideal S512x1024 .bf16) (j : Fin 512) (k : Fin 1024) : View.ld x r0_8 (ix2 j k) = x (ix2 j k) :=
    View.ld_unit_apply_of _ _ _ _ _ _ (by intro a; fin_cases a <;> simp)
  have ho (k c : Fin 1024) : View.ld x14 r0_14 (ix2 k c) = x14 (ix2 k c) :=
    View.ld_unit_apply_of _ _ _ _ _ _ (by intro a; fin_cases a <;> simp)
  simp only [hr, hs x3, hs x4, hs x5, hs x6, hs x7, h2, h10, h11, h12, h8, hw x11, hw x12, hw x13, ho]

/-- What the body leaves in the result's buffer, from the fifteen input blocks, at row `r` and feature `c` of the block. -/
theorem out_apply (r c : Fin 1024) :
    out0_15 x0 x1 x2 x3 x4 x5 x6 x7 x8 x9 x10 x11 x12 x13 x14 (ix3 0 r c)
      = row x0 x1 x2 x3 x4 x5 x6 x7 x8 x9 x10 x11 x12 x13 x14 r c := by
  unfold out0_15
  canon_tiles x h
  all_goals
    rw [eq_unit x]
  · refine Eq.trans (b := chain (View.ld x0 r0_15) (View.ld x2 r0_2)
        (View.ld x1 r0_3) (View.ld x1 r0_4) (View.ld x1 r0_13) (View.ld x4 r0_16) (View.ld x5 r0_16)
        (View.ld x6 r0_16) (View.ld x8 r0_0) (View.ld x3 r0_16) (View.ld x7 r0_16)
        (View.ld x9 r0_6) (View.ld x9 r0_9) (View.ld x9 r0_11) (View.ld x10 r0_7) (View.ld x10 r0_10) (View.ld x10 r0_12)
        (View.ld x11 r0_8) (View.ld x12 r0_8) (View.ld x13 r0_8) (View.ld x14 r0_14) (ix3 0 (x 1) (x 2))) rfl ?_
    exact piece x0 x1 x2 x3 x4 x5 x6 x7 x8 x9 x10 x11 x12 x13 x14 512 _ _ r c (x 1) (x 2) h1 h2
  · refine Eq.trans (b := chain (View.ld x0 r0_1) (View.ld x2 r0_2)
        (View.ld x1 r0_3) (View.ld x1 r0_4) (View.ld x1 r0_13) (View.ld x4 r0_5) (View.ld x5 r0_5)
        (View.ld x6 r0_5) (View.ld x8 r0_0) (View.ld x3 r0_5) (View.ld x7 r0_5)
        (View.ld x9 r0_6) (View.ld x9 r0_9) (View.ld x9 r0_11) (View.ld x10 r0_7) (View.ld x10 r0_10) (View.ld x10 r0_12)
        (View.ld x11 r0_8) (View.ld x12 r0_8) (View.ld x13 r0_8) (View.ld x14 r0_14) (ix3 0 (x 1) (x 2))) rfl ?_
    exact piece x0 x1 x2 x3 x4 x5 x6 x7 x8 x9 x10 x11 x12 x13 x14 0 _ _ r c (x 1) (x 2) (h1.trans (Nat.zero_add _).symm) h2

end Out

end Cert.Merge

end
-- ==== Proof.MergeBlocks.lean ====
/-
  The call `merge_out`'s result array after the run: the blocks the pipeline shows the body, as entries of the arguments,
  and the result array as the reference's. The call moves the rows of its first weight to the order of the heads in the
  windowed call's result; the reference moves the heads of that result instead: the two products agree, term by term.
-/
module

public import proofs.«01_k».proof.Proof.MergeValue

@[expose] public section

set_option maxRecDepth 16384

noncomputable section

namespace Cert.Merge

open Idealize.ShloMosaic Idealize.ShloMosaic.TcCoe Idealize.SL.Sem
open Idealize.ShloMosaic.Pipeline (Dat)
open Cert.Kernel4Ideal Cert.Kernel4Ideal.Gen

/-- Which block each window shows at a step of the pipeline. -/
theorem idx : ∀ t : Fin cfg0.N, win0_0.index t = ![t.val / 4, t.val % 4, 0] ∧ win0_1.index t = ![t.val / 4, 0, 0]
    ∧ win0_2.index t = ![0, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0]
    ∧ win0_7.index t = ![t.val / 4, t.val % 4, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![t.val / 4, t.val % 4, 0] ∧ t.val / 4 < 4 :=
  (by decide +kernel : ∀ t : Fin grid0.N, _)

/-- The head that the call takes its first weight's rows from at place `p`: heads 0, 4, 1, 5, 2, 6, 3, 7. -/
def headFrom (p : Fin 8) : Fin 8 := ⟨p.val % 2 * 4 + p.val / 2, by omega⟩

/-- The call's list of heads, as the gather reads it: no entry is negative, so none is moved by 8. -/
theorem list_apply (p : Fin 8) :
    (broadcastInDim S8x1 ![0] bcast_S8_S8x1_0
        (select
          (cmpi CmpIPredicate.slt (fun i => lit0 (S8.rowMajor i))
            (broadcastInDim S8 ![] bcast_S_S8 (constantI S_ 32 0#32)))
          (addi (fun i => lit0 (S8.rowMajor i)) (broadcastInDim S8 ![] bcast_S_S8 (constantI S_ 32 8#32))) fun i =>
          lit0 (S8.rowMajor i)) : IVec S8x1 32) (ix2 p 0) = BitVec.ofNat 32 (headFrom p).val := by
  pointwise []
  fin_cases p <;> rfl

/-- A gather of whole heads, read at an index: the head is the listed one. -/
theorem gather_apply {α : Type} (x : S8x64x1024.Idx → α) (ix : IVec S8x1 32)
    (hix : ∀ p : Fin 8, ix (ix2 p 0) = BitVec.ofNat 32 (headFrom p).val) (p : Fin 8) (d : Fin 64) (n : Fin 1024) :
    Host.gather gather_S8x64x1024_S8x1_S8x64x1024_12_0_n_n_0_1_1641024 x ix (ix3 p d n) = x (ix3 (headFrom p) d n) := by
  unfold Host.gather
  generalize hD : gather_S8x64x1024_S8x1_S8x64x1024_12_0_n_n_0_1_1641024 = D
  have hm : D.startIndexMap = [0] := hD ▸ rfl
  have ho : D.offsetDims = [1, 2] := hD ▸ rfl
  have hob : D.operandBatchingDims = [] := hD ▸ rfl
  have hk : D.sKept = [1, 2] := by subst hD; decide
  have hv : D.indexVectorDim = 1 := hD ▸ rfl
  have hz : D.sliceSizes = ![1, 64, 1024] := hD ▸ rfl
  have hsi (i) : D.siIdx (ix3 p d n) i = ix2 p 0 := by
    funext b
    refine Fin.ext ?_
    match b with
    | ⟨0, _⟩ => subst hD; rfl
    | ⟨1, _⟩ =>
      have h1 : D.startIndexMap.length = 1 := by rw [hm]; rfl
      have h2 : (D.siIdx (ix3 p d n) i (1 : Fin 2)).val = i.val := by
        unfold GatherDims.siIdx
        exact congrArg Fin.val (dif_pos hv.symm)
      exact h2.trans (by have := i.isLt; show i.val = 0; omega)
  have hb (a) : D.batchCoord (ix3 p d n) a = 0 := GatherDims.batchCoord_eq_zero _ _ _ (by rw [hob]; exact List.not_mem_nil)
  refine congrArg x (funext fun a => Fin.ext ?_)
  show D.start (ix3 p d n) ix a + D.batchCoord (ix3 p d n) a + D.offCoord (ix3 p d n) a = _
  rw [hb]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (by rw [hk]; decide)]
    unfold GatherDims.start
    rw [dif_pos (by rw [hm]; decide), hsi, hix, hz]
    show min (BitVec.ofNat 32 (headFrom p).val).toInt.toNat 7 + 0 + 0 = (headFrom p).val
    clear hb hsi hix
    fin_cases p <;> rfl
  · unfold GatherDims.start GatherDims.offCoord
    rw [dif_neg (by rw [hm]; decide), dif_pos (by rw [hk]; decide)]
    have h0 : D.sKept.idxOf 1 = 0 := by rw [hk]; rfl
    have hx (e : Fin 3) (he : e = 1) : 0 + 0 + (ix3 p d n e).val = d.val := by
      subst he
      exact Nat.zero_add _
    exact hx _ (by simp only [h0, ho]; rfl)
  · unfold GatherDims.start GatherDims.offCoord
    rw [dif_neg (by rw [hm]; decide), dif_pos (by rw [hk]; decide)]
    have h0 : D.sKept.idxOf 2 = 1 := by rw [hk]; rfl
    have hx (e : Fin 3) (he : e = 2) : 0 + 0 + (ix3 p d n e).val = n.val := by
      subst he
      exact Nat.zero_add _
    exact hx _ (by simp only [h0, ho]; rfl)

/-- The row of the first weight that the call moves to row `j`. -/
def source (j : Fin 512) : Fin 512 :=
  ⟨(headFrom ⟨j.val / 64, by omega⟩).val * 64 + j.val % 64, by have := (headFrom ⟨j.val / 64, by omega⟩).isLt; omega⟩

/-- `place` and `source` undo each other. -/
theorem source_place (j : Fin 512) : source (place j) = j := by
  apply Fin.ext
  simp only [source, place, headFrom]
  omega

/-- `source` and `place` undo each other. -/
theorem place_source (j : Fin 512) : place (source j) = j := by
  apply Fin.ext
  simp only [source, place, headFrom]
  omega

/-- The product with the weight's rows moved is the product with the heads moved. -/
theorem dot_source (y w : Fin 512 → EReal) : dot y (fun j => w (source j)) = dot (fun j => y (place j)) w :=
  (Fintype.sum_equiv ⟨place, source, source_place, place_source⟩ _ _ fun j => by
    show y (place j) * w j = y (place j) * w (source (place j))
    rw [source_place]).symm

variable (m : (ℓ : Loc nD τ sig) → Buf (Elt Ideal) ℓ)

/-- The first weight's block: row `j` is the weight's row `source j`. -/
theorem block_weight (c : Dev nD) (t : Fin cfg0.N) (j : Fin 512) (k : Fin 1024) :
    iblk m c 11 t (ix2 j k) = m ((c : Thread nD τ).loc main_arg11) (ix2 (source j) k) := by
  have he : (win0_11.blk t).view.emb (ix2 j k : S512x1024.Idx) = ix2 j k := by blk_ext [idx t]
  have he' : ((View.whole main_v18).slice (win0_11.rect t)).emb (ix2 j k : S512x1024.Idx) = ix2 j k := he
  generalize hz : m ((c : Thread nD τ).loc main_arg11) (ix2 (source j) k) = z
  blk_simp [iblk, V, idx t]
  entry_read
  pointwise []
  refine (gather_apply _ _ list_apply _ _ _).trans ?_
  rw [← hz]
  simp only [he']
  refine congrArg (m ((c : Thread nD τ).loc main_arg11)) ?_
  rfl

set_option maxHeartbeats 1600000 in
/-- WHAT POINT `t` LEAVES at row `r`, feature `k` of its block is the reference's result where the block puts it. -/
theorem point (c : Dev nD) (t : Fin cfg0.N) (r k : Fin 1024) :
    out0_15 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (ix3 0 r k)
      = Cert.Reference4Ideal.Read.val_main_v73 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        ((win0_15.blk t).view.emb (ix3 0 r k : S1x1024x1024.Idx)) := by
  obtain ⟨e0, e1, e2, e3, e4, e5, e6, e7, e8, e9, e10, e11, e12, e13, e14, e15, hb⟩ := idx t
  have hlt : t.val % 4 * 1024 + r.val < 4096 := by omega
  have he : (win0_15.blk t).view.emb (ix3 0 r k : S1x1024x1024.Idx) = ix3 ⟨t.val / 4, hb⟩ ⟨t.val % 4 * 1024 + r.val, hlt⟩ k := by
    blk_ext [idx t]
  refine (out_apply _ _ _ _ _ _ _ _ _ _ _ _ _ _ _ r k).trans (Eq.trans ?_ ((congrArg _ he).trans
    (ref_apply _ _ _ _ _ _ _ _ _ _ _ _ _ _ _ ⟨t.val / 4, hb⟩ ⟨t.val % 4 * 1024 + r.val, hlt⟩ k)).symm)
  have r0 (l : Fin 1024) : iblk m c 0 t (ix3 0 r l) = m ((c : Thread nD τ).loc main_arg0) (ix3 ⟨t.val / 4, hb⟩ ⟨t.val % 4 * 1024 + r.val, hlt⟩ l) := by
    blk_ext [iblk, V, idx t]
  have r1 (s : Fin 6) (l : Fin 1024) : iblk m c 1 t (ix3 0 s l) = m ((c : Thread nD τ).loc main_arg1) (ix2 ⟨t.val / 4, hb⟩ ⟨s.val * 1024 + l.val, by omega⟩) := by
    blk_ext! [iblk, V, idx t]
  have r2 (l : Fin 1024) : iblk m c 2 t (ix2 0 l) = m ((c : Thread nD τ).loc main_arg2) (ix1 l) := by
    blk_ext! [iblk, V, idx t]
  have r3 (l : Fin 512) : iblk m c 3 t (ix3 0 r l) = m ((c : Thread nD τ).loc main_arg3) (ix3 ⟨t.val / 4, hb⟩ ⟨t.val % 4 * 1024 + r.val, hlt⟩ l) := by
    blk_ext [iblk, V, idx t]
  have r4 (j : Fin 512) : iblk m c 4 t (ix3 0 r j)
      = m ((c : Thread nD τ).loc main_arg4) (ix4 ⟨t.val / 4, hb⟩ ⟨j.val / 128, by omega⟩ ⟨t.val % 4 * 1024 + r.val, hlt⟩ ⟨j.val % 128, by omega⟩) := by
    blk_ext! [iblk, V, idx t]
  have r5 (j : Fin 512) : iblk m c 5 t (ix3 0 r j)
      = m ((c : Thread nD τ).loc main_arg5) (ix4 ⟨t.val / 4, hb⟩ ⟨j.val / 128, by omega⟩ ⟨t.val % 4 * 1024 + r.val, hlt⟩ ⟨j.val % 128, by omega⟩) := by
    blk_ext! [iblk, V, idx t]
  have r6 (l : Fin 512) : iblk m c 6 t (ix3 0 r l) = m ((c : Thread nD τ).loc main_arg6) (ix3 ⟨t.val / 4, hb⟩ ⟨t.val % 4 * 1024 + r.val, hlt⟩ l) := by
    blk_ext [iblk, V, idx t]
  have r7 (l : Fin 512) : iblk m c 7 t (ix3 0 r l) = m ((c : Thread nD τ).loc main_arg7) (ix3 ⟨t.val / 4, hb⟩ ⟨t.val % 4 * 1024 + r.val, hlt⟩ l) := by
    blk_ext [iblk, V, idx t]
  have r8 (l : Fin 128) : iblk m c 8 t (ix2 0 l) = m ((c : Thread nD τ).loc main_arg8) (ix1 l) := by
    blk_ext! [iblk, V, idx t]
  have r9 (k : Fin 1024) (j : Fin 3072) : iblk m c 9 t (ix2 k j) = m ((c : Thread nD τ).loc main_arg9) (ix2 k j) := by
    blk_ext! [iblk, V, idx t]
  have r10 (l : Fin 3072) : iblk m c 10 t (ix2 0 l) = m ((c : Thread nD τ).loc main_arg10) (ix1 l) := by
    blk_ext! [iblk, V, idx t]
  have r12 (k : Fin 512) (j : Fin 1024) : iblk m c 12 t (ix2 k j) = m ((c : Thread nD τ).loc main_arg12) (ix2 k j) := by
    blk_ext! [iblk, V, idx t]
  have r13 (k : Fin 512) (j : Fin 1024) : iblk m c 13 t (ix2 k j) = m ((c : Thread nD τ).loc main_arg13) (ix2 k j) := by
    blk_ext! [iblk, V, idx t]
  have r14 (k : Fin 1024) (j : Fin 1024) : iblk m c 14 t (ix2 k j) = m ((c : Thread nD τ).loc main_arg14) (ix2 k j) := by
    blk_ext! [iblk, V, idx t]
  have r11 := block_weight m c t
  unfold row
  simp only [r0, r1, r2, r3, r4, r5, r6, r7, r8, r9, r10, r11, r12, r13, r14]
  have hd (n : Fin 1024) := dot_source (fun j => m ((c : Thread nD τ).loc main_arg3) (ix3 ⟨t.val / 4, hb⟩ ⟨t.val % 4 * 1024 + r.val, hlt⟩ j))
    fun j => m ((c : Thread nD τ).loc main_arg11) (ix2 j n)
  simp only [← hd]
  rfl

/-- THE RESULT ARRAY AFTER THE RUN is the reference's result of the same arguments. -/
theorem final (c : Dev nD) : (dats m 0 c).arrAt 15 (cfgs 0).N
    = Cert.Reference4Ideal.Read.val_main_v73 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14)) := by
  refine (dats m 0 c).arrAt_eq_of_covers 15 _ (by decide +kernel) fun t _ y => ?_
  blk_simp
  rw [after0_15]
  exact (congrArg _ (eq_unit y)).trans ((point m c t (y 1) (y 2)).trans (congrArg _ (congrArg _ (eq_unit y).symm)))

end Cert.Merge

end
-- ==== Proof.MergeClaims.lean ====
/-
  The claims about the call `merge_out` (the programs Kernel4, Kernel4Ideal and Reference4Ideal).
-/
module

public import proofs.«01_k».proof.Defs
public import proofs.«01_k».proof.Proof.Gen.Kernel4.Frame
public import proofs.«01_k».proof.Proof.MergeBlocks
public import Idealize.ShloMosaic.Lib.Quiescent

@[expose] public section

noncomputable section

namespace Cert.Merge

open Idealize.ShloMosaic Idealize.ShloMosaic.TcCoe Idealize.SL.Sem

/-- The call as written runs to the end, leaves its arguments as they were and every semaphore at zero. -/
theorem frame_kernel : Cert.quiescent_Kernel4 := fun m ρ _ => Cert.Kernel4.Gen.frame m ρ

/-- So does its reading over the extended reals. -/
theorem frame_ideal : Cert.quiescent_Kernel4Ideal := fun m ρ _ => Cert.Kernel4Ideal.Gen.frame m ρ

/-- So does the reference, which has no semaphore at all. -/
theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- THE CALL COMPUTES THE LAYER: over the extended reals, from the same arguments, the call and the reference end with
    the same result array, whatever the arguments hold. -/
theorem algebraic : Cert.algebraic_Kernel4Ideal_Reference4Ideal := by
  intro m ρ m' ρ' _ hag
  refine ⟨fun c => (Cert.Kernel4Ideal.Gen.dats m 0 c).arrAt 15 Cert.Kernel4Ideal.cfg0.N, Cert.Kernel4Ideal.Value.run_blocks m ρ,
    (θ_run Cert.Reference4Ideal.defs _ _).mono (fun _ h c => ⟨(h c).1.trans ?_, (h c).2⟩)
      (Cert.Reference4Ideal.Value.run (F := Ideal) m' ρ')⟩
  obtain ⟨h0, h1, h2, h3, h4, h5, h6, h7, h8, h9, h10, h11, h12, h13, h14⟩ := hag c
  rw [Cert.Reference4Ideal.Read.val_main_v73_eq, h0, h1, h2, h3, h4, h5, h6, h7, h8, h9, h10, h11, h12, h13, h14]
  exact (final m c).symm

end Cert.Merge

end
-- ==== Proof.lean ====
/-
  The claims of Defs, put together: the facts the programs state, then the claims about the calls
  `window_attn`, `ffn_final`, `ffn` and `merge_out`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.WindowClaims
public import proofs.«01_k».proof.Proof.FfnClaims
public import proofs.«01_k».proof.Proof.FirstFfnClaims
public import proofs.«01_k».proof.Proof.MergeClaims

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Window.pre_facts,
    Cert.Window.frame_kernel, Cert.Window.frame_ideal, Cert.Window.frame_ideal_pre, Cert.Window.frame_reference,
    Cert.Window.frame_reference_pre,
    Cert.Ffn.frame_kernel, Cert.Ffn.frame_ideal, Cert.Ffn.frame_reference,
    Cert.FirstFfn.frame_kernel, Cert.FirstFfn.frame_ideal, Cert.FirstFfn.frame_reference,
    Cert.Merge.frame_kernel, Cert.Merge.frame_ideal, Cert.Merge.frame_reference,
    Cert.Window.preserves, Cert.Window.algebraic, trivial, Cert.Ffn.algebraic, trivial, Cert.FirstFfn.algebraic,
    trivial, Cert.Merge.algebraic⟩

end Cert.Proof

end
